-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S1x256 : Shape := ⟨2, ![1, 256]⟩
abbrev S8x1x256 : Shape := ⟨3, ![8, 1, 256]⟩
abbrev S4x1x256 : Shape := ⟨3, ![4, 1, 256]⟩
abbrev S7 : Shape := ⟨1, ![7]⟩
abbrev S3 : Shape := ⟨1, ![3]⟩
abbrev S8 : Shape := ⟨1, ![8]⟩
abbrev S4 : Shape := ⟨1, ![4]⟩
abbrev S_ : Shape := ⟨0, ![]⟩
abbrev S256 : Shape := ⟨1, ![256]⟩
abbrev S1x1x256 : Shape := ⟨3, ![1, 1, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S8x1x256, .f32⟩
  | .local _ .vmem, ⟨3, _⟩ => ⟨S4x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c1_i32_6 : BitVec 32 := 1#32
  let v23 : BitVec 32 := Scalar.addi v3 c1_i32_6
  let c8_i32_7 : BitVec 32 := 8#32
  let v24 : BitVec 32 := Scalar.remsi v23 c8_i32_7
  let v25 : BitVec 32 := Scalar.addi v21 v24
  let c1_i32_9 : BitVec 32 := 1#32
  let v26 : BitVec 32 := Scalar.muli v25 c1_i32_9
  let v27 : BitVec 32 := Scalar.addi c0_i32_10 v26
  v27.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c2_i32 : BitVec 32 := 2#32
  let v28 : BitVec 32 := Scalar.addi v3 c2_i32
  let c8_i32_11 : BitVec 32 := 8#32
  let v29 : BitVec 32 := Scalar.remsi v28 c8_i32_11
  let v30 : BitVec 32 := Scalar.addi v21 v29
  let c1_i32_13 : BitVec 32 := 1#32
  let v31 : BitVec 32 := Scalar.muli v30 c1_i32_13
  let v32 : BitVec 32 := Scalar.addi c0_i32_14 v31
  v32.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c3_i32 : BitVec 32 := 3#32
  let v33 : BitVec 32 := Scalar.addi v3 c3_i32
  let c8_i32_15 : BitVec 32 := 8#32
  let v34 : BitVec 32 := Scalar.remsi v33 c8_i32_15
  let v35 : BitVec 32 := Scalar.addi v21 v34
  let c1_i32_17 : BitVec 32 := 1#32
  let v36 : BitVec 32 := Scalar.muli v35 c1_i32_17
  let v37 : BitVec 32 := Scalar.addi c0_i32_18 v36
  v37.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c4_i32 : BitVec 32 := 4#32
  let v38 : BitVec 32 := Scalar.addi v3 c4_i32
  let c8_i32_19 : BitVec 32 := 8#32
  let v39 : BitVec 32 := Scalar.remsi v38 c8_i32_19
  let v40 : BitVec 32 := Scalar.addi v21 v39
  let c1_i32_21 : BitVec 32 := 1#32
  let v41 : BitVec 32 := Scalar.muli v40 c1_i32_21
  let v42 : BitVec 32 := Scalar.addi c0_i32_22 v41
  v42.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c5_i32 : BitVec 32 := 5#32
  let v43 : BitVec 32 := Scalar.addi v3 c5_i32
  let c8_i32_23 : BitVec 32 := 8#32
  let v44 : BitVec 32 := Scalar.remsi v43 c8_i32_23
  let v45 : BitVec 32 := Scalar.addi v21 v44
  let c1_i32_25 : BitVec 32 := 1#32
  let v46 : BitVec 32 := Scalar.muli v45 c1_i32_25
  let v47 : BitVec 32 := Scalar.addi c0_i32_26 v46
  v47.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c6_i32 : BitVec 32 := 6#32
  let v48 : BitVec 32 := Scalar.addi v3 c6_i32
  let c8_i32_27 : BitVec 32 := 8#32
  let v49 : BitVec 32 := Scalar.remsi v48 c8_i32_27
  let v50 : BitVec 32 := Scalar.addi v21 v49
  let c1_i32_29 : BitVec 32 := 1#32
  let v51 : BitVec 32 := Scalar.muli v50 c1_i32_29
  let v52 : BitVec 32 := Scalar.addi c0_i32_30 v51
  v52.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c7_i32 : BitVec 32 := 7#32
  let v53 : BitVec 32 := Scalar.addi v3 c7_i32
  let c8_i32_31 : BitVec 32 := 8#32
  let v54 : BitVec 32 := Scalar.remsi v53 c8_i32_31
  let v55 : BitVec 32 := Scalar.addi v21 v54
  let c1_i32_33 : BitVec 32 := 1#32
  let v56 : BitVec 32 := Scalar.muli v55 c1_i32_33
  let v57 : BitVec 32 := Scalar.addi c0_i32_34 v56
  v57.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_37 : BitVec 32 := 8#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let c1_i32_35 : BitVec 32 := 1#32
  let v58 : BitVec 32 := Scalar.addi v20 c1_i32_35
  let c4_i32_36 : BitVec 32 := 4#32
  let v59 : BitVec 32 := Scalar.remsi v58 c4_i32_36
  let v60 : BitVec 32 := Scalar.muli c8_i32_37 v59
  let v61 : BitVec 32 := Scalar.addi v3 v60
  let c1_i32_39 : BitVec 32 := 1#32
  let v62 : BitVec 32 := Scalar.muli v61 c1_i32_39
  let v63 : BitVec 32 := Scalar.addi c0_i32_40 v62
  v63.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_43 : BitVec 32 := 8#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let c2_i32_41 : BitVec 32 := 2#32
  let v64 : BitVec 32 := Scalar.addi v20 c2_i32_41
  let c4_i32_42 : BitVec 32 := 4#32
  let v65 : BitVec 32 := Scalar.remsi v64 c4_i32_42
  let v66 : BitVec 32 := Scalar.muli c8_i32_43 v65
  let v67 : BitVec 32 := Scalar.addi v3 v66
  let c1_i32_45 : BitVec 32 := 1#32
  let v68 : BitVec 32 := Scalar.muli v67 c1_i32_45
  let v69 : BitVec 32 := Scalar.addi c0_i32_46 v68
  v69.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_49 : BitVec 32 := 8#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let c3_i32_47 : BitVec 32 := 3#32
  let v70 : BitVec 32 := Scalar.addi v20 c3_i32_47
  let c4_i32_48 : BitVec 32 := 4#32
  let v71 : BitVec 32 := Scalar.remsi v70 c4_i32_48
  let v72 : BitVec 32 := Scalar.muli c8_i32_49 v71
  let v73 : BitVec 32 := Scalar.addi v3 v72
  let c1_i32_51 : BitVec 32 := 1#32
  let v74 : BitVec 32 := Scalar.muli v73 c1_i32_51
  let v75 : BitVec 32 := Scalar.addi c0_i32_52 v74
  v75.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c0_i32_56 : BitVec 32 := 0#32
  let c0_i32_57 : BitVec 32 := 0#32
  ![v3.toNat, 0, 0]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  ![v3.toNat]
def k0_dev11 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c1_i32_58 : BitVec 32 := 1#32
  let v83 : BitVec 32 := Scalar.addi v3 c1_i32_58
  let c8_i32_59 : BitVec 32 := 8#32
  let v84 : BitVec 32 := Scalar.remsi v83 c8_i32_59
  let v85 : BitVec 32 := Scalar.addi v21 v84
  let c1_i32_61 : BitVec 32 := 1#32
  let v86 : BitVec 32 := Scalar.muli v85 c1_i32_61
  let v87 : BitVec 32 := Scalar.addi c0_i32_62 v86
  v87.toNat
def k0_dev12 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c2_i32_65 : BitVec 32 := 2#32
  let v94 : BitVec 32 := Scalar.addi v3 c2_i32_65
  let c8_i32_66 : BitVec 32 := 8#32
  let v95 : BitVec 32 := Scalar.remsi v94 c8_i32_66
  let v96 : BitVec 32 := Scalar.addi v21 v95
  let c1_i32_68 : BitVec 32 := 1#32
  let v97 : BitVec 32 := Scalar.muli v96 c1_i32_68
  let v98 : BitVec 32 := Scalar.addi c0_i32_69 v97
  v98.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c3_i32_72 : BitVec 32 := 3#32
  let v105 : BitVec 32 := Scalar.addi v3 c3_i32_72
  let c8_i32_73 : BitVec 32 := 8#32
  let v106 : BitVec 32 := Scalar.remsi v105 c8_i32_73
  let v107 : BitVec 32 := Scalar.addi v21 v106
  let c1_i32_75 : BitVec 32 := 1#32
  let v108 : BitVec 32 := Scalar.muli v107 c1_i32_75
  let v109 : BitVec 32 := Scalar.addi c0_i32_76 v108
  v109.toNat
def k0_dev14 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c4_i32_79 : BitVec 32 := 4#32
  let v116 : BitVec 32 := Scalar.addi v3 c4_i32_79
  let c8_i32_80 : BitVec 32 := 8#32
  let v117 : BitVec 32 := Scalar.remsi v116 c8_i32_80
  let v118 : BitVec 32 := Scalar.addi v21 v117
  let c1_i32_82 : BitVec 32 := 1#32
  let v119 : BitVec 32 := Scalar.muli v118 c1_i32_82
  let v120 : BitVec 32 := Scalar.addi c0_i32_83 v119
  v120.toNat
def k0_dev15 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c5_i32_86 : BitVec 32 := 5#32
  let v127 : BitVec 32 := Scalar.addi v3 c5_i32_86
  let c8_i32_87 : BitVec 32 := 8#32
  let v128 : BitVec 32 := Scalar.remsi v127 c8_i32_87
  let v129 : BitVec 32 := Scalar.addi v21 v128
  let c1_i32_89 : BitVec 32 := 1#32
  let v130 : BitVec 32 := Scalar.muli v129 c1_i32_89
  let v131 : BitVec 32 := Scalar.addi c0_i32_90 v130
  v131.toNat
def k0_dev16 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c6_i32_93 : BitVec 32 := 6#32
  let v138 : BitVec 32 := Scalar.addi v3 c6_i32_93
  let c8_i32_94 : BitVec 32 := 8#32
  let v139 : BitVec 32 := Scalar.remsi v138 c8_i32_94
  let v140 : BitVec 32 := Scalar.addi v21 v139
  let c1_i32_96 : BitVec 32 := 1#32
  let v141 : BitVec 32 := Scalar.muli v140 c1_i32_96
  let v142 : BitVec 32 := Scalar.addi c0_i32_97 v141
  v142.toNat
def k0_dev17 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v21 : BitVec 32 := Scalar.subi v2 v3
  let c7_i32_100 : BitVec 32 := 7#32
  let v149 : BitVec 32 := Scalar.addi v3 c7_i32_100
  let c8_i32_101 : BitVec 32 := 8#32
  let v150 : BitVec 32 := Scalar.remsi v149 c8_i32_101
  let v151 : BitVec 32 := Scalar.addi v21 v150
  let c1_i32_103 : BitVec 32 := 1#32
  let v152 : BitVec 32 := Scalar.muli v151 c1_i32_103
  let v153 : BitVec 32 := Scalar.addi c0_i32_104 v152
  v153.toNat
def k0_off3 (d0 : Dev nD) (c1_i32_109 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v162 : BitVec 32 := Scalar.addi v3 c1_i32_109
  let c8_i32_110 : BitVec 32 := 8#32
  let v163 : BitVec 32 := Scalar.remsi v162 c8_i32_110
  ![v163.toNat]
def k0_off4 (d0 : Dev nD) (c1_i32_109 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v162 : BitVec 32 := Scalar.addi v3 c1_i32_109
  let c8_i32_110 : BitVec 32 := 8#32
  let v163 : BitVec 32 := Scalar.remsi v162 c8_i32_110
  let c0_i32_114 : BitVec 32 := 0#32
  let c0_i32_115 : BitVec 32 := 0#32
  ![v163.toNat, 0, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let c0_i32_192 : BitVec 32 := 0#32
  let c0_i32_193 : BitVec 32 := 0#32
  ![v20.toNat, 0, 0]
def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  ![v20.toNat]
def k0_dev18 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_196 : BitVec 32 := 8#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let c1_i32_194 : BitVec 32 := 1#32
  let v251 : BitVec 32 := Scalar.addi v20 c1_i32_194
  let c4_i32_195 : BitVec 32 := 4#32
  let v252 : BitVec 32 := Scalar.remsi v251 c4_i32_195
  let v253 : BitVec 32 := Scalar.muli c8_i32_196 v252
  let v254 : BitVec 32 := Scalar.addi v3 v253
  let c1_i32_198 : BitVec 32 := 1#32
  let v255 : BitVec 32 := Scalar.muli v254 c1_i32_198
  let v256 : BitVec 32 := Scalar.addi c0_i32_199 v255
  v256.toNat
def k0_dev19 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_204 : BitVec 32 := 8#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let c2_i32_202 : BitVec 32 := 2#32
  let v263 : BitVec 32 := Scalar.addi v20 c2_i32_202
  let c4_i32_203 : BitVec 32 := 4#32
  let v264 : BitVec 32 := Scalar.remsi v263 c4_i32_203
  let v265 : BitVec 32 := Scalar.muli c8_i32_204 v264
  let v266 : BitVec 32 := Scalar.addi v3 v265
  let c1_i32_206 : BitVec 32 := 1#32
  let v267 : BitVec 32 := Scalar.muli v266 c1_i32_206
  let v268 : BitVec 32 := Scalar.addi c0_i32_207 v267
  v268.toNat
def k0_dev20 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_212 : BitVec 32 := 8#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let c3_i32_210 : BitVec 32 := 3#32
  let v275 : BitVec 32 := Scalar.addi v20 c3_i32_210
  let c4_i32_211 : BitVec 32 := 4#32
  let v276 : BitVec 32 := Scalar.remsi v275 c4_i32_211
  let v277 : BitVec 32 := Scalar.muli c8_i32_212 v276
  let v278 : BitVec 32 := Scalar.addi v3 v277
  let c1_i32_214 : BitVec 32 := 1#32
  let v279 : BitVec 32 := Scalar.muli v278 c1_i32_214
  let v280 : BitVec 32 := Scalar.addi c0_i32_215 v279
  v280.toNat
def k0_off7 (d0 : Dev nD) (c1_i32_220 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let v289 : BitVec 32 := Scalar.addi v20 c1_i32_220
  let c4_i32_221 : BitVec 32 := 4#32
  let v290 : BitVec 32 := Scalar.remsi v289 c4_i32_221
  ![v290.toNat]
def k0_off8 (d0 : Dev nD) (c1_i32_220 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c8_i32_0 : BitVec 32 := 8#32
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v2 c8_i32_0
  let c0_i32_4 : BitVec 32 := 0#32
  let v17 : BitVec 1 := Scalar.cmpi .ne v16 c0_i32_4
  let v18 : BitVec 1 := Scalar.andi v15 v17
  let v4 : BitVec 32 := Scalar.divsi v2 c8_i32_0
  let c1_i32_5 : BitVec 32 := 1#32
  let v19 : BitVec 32 := Scalar.subi v4 c1_i32_5
  let v20 : BitVec 32 := Scalar.select v18 v19 v4
  let v289 : BitVec 32 := Scalar.addi v20 c1_i32_220
  let c4_i32_221 : BitVec 32 := 4#32
  let v290 : BitVec 32 := Scalar.remsi v289 c4_i32_221
  let c0_i32_225 : BitVec 32 := 0#32
  let c0_i32_226 : BitVec 32 := 0#32
  ![v290.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x256 : Shape := ⟨2, ![16384, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S_, .f32⟩
  | .hbm, ⟨2, _⟩ => ⟨S256, .f32⟩
  | .hbm, ⟨3, _⟩ => ⟨S1x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.SameText.lean ====
/-
# SameText — the program as printed and its idealization are one text

No operation of the program was rewritten, so that a run of one is a run of the other.
-/
module

public import proofs.«01_k».proof.Proof.Gen.KernelIdeal.Launch
public import proofs.«01_k».proof.Proof.Gen.Kernel.Launch

@[expose] public section

noncomputable section

namespace Cert.AllReduce

open Idealize.ShloMosaic Idealize.SL.Sem

variable {F : FTy → Type} [FloatOps F]

/-- The kernels' bodies are the same, -/
theorem same_bodies : Cert.Kernel.defs₀ (F := F) = Cert.KernelIdeal.defs₀ (F := F) := by
  refine congrArg (Defs.onTc (nD := Cert.KernelIdeal.nD) (τ := Cert.KernelIdeal.τ) (sig := Cert.KernelIdeal.sig)) (funext fun l => funext fun a => ?_)
  match l, a with
  | ⟨0, _⟩, (t, s) => rfl

/-- so are the tables with the pipelines, -/
theorem same_tables : Cert.Kernel.defs (F := F) = Cert.KernelIdeal.defs (F := F) :=
  congrArg (Pipeline.defs (Cert.KernelIdeal.pcfgs (F := F))) same_bodies

/-- and the runs. -/
theorem same_run (Q) (s) : θ_run (Cert.Kernel.defs (F := F)) (onTc (τ := Cert.Kernel.τ) (Cert.Kernel.main (F := F))) s Q
    = θ_run (Cert.KernelIdeal.defs (F := F)) (onTc (τ := Cert.KernelIdeal.τ) (Cert.KernelIdeal.main (F := F))) s Q := by
  rw [← same_tables]; rfl

end Cert.AllReduce
-- ==== Proof.Mesh.lean ====
/-
# Mesh — who talks to whom in the two-stage all-reduce

The 32 devices form four planes of eight: device `c` sits at place `c % 8` of plane `c / 8`. The kernel first sums over
the eight devices of a plane and then over the four devices standing at the same place of the planes.

A device has ten links: link `i < 7` leads to the device `i + 1` places further round its plane, link `7 ≤ i` to the
device `i - 6` planes further on. It has twelve landing rows ("slots"): slots 0 to 7 are the rows of the first scratch
buffer, one for each place of the plane, slots 8 to 11 the rows of the second, one for each plane. This file names the
device at the far end of a link (`peer`), the link that leads back (`back`), the slot a device's own data goes into
(`own`) and the slot it receives a link's data in (`slotOf`); all facts about them are decided.
-/
module

public import proofs.«01_k».proof.Proof.Gen.KernelIdeal

@[expose] public section

namespace Cert.AllReduce

open Cert.KernelIdeal Cert.KernelIdeal.Gen
open Idealize.ShloMosaic

/-! ## Links -/

/-- The device at the far end of link `i` of device `c`. -/
def peer (c : Dev nD) (i : Fin 10) : Dev nD :=
  if i.val < 7 then Fin.ofNat 32 (c.val / 8 * 8 + (c.val % 8 + i.val + 1) % 8)
  else Fin.ofNat 32 (c.val % 8 + 8 * ((c.val / 8 + (i.val - 7) + 1) % 4))

/-- The link of the far end that leads back. -/
def back (i : Fin 10) : Fin 10 := if i.val < 7 then Fin.ofNat 10 (6 - i.val) else Fin.ofNat 10 (16 - i.val)

/-- The slot that device `c` fills, on itself and on the far end of link `i`: its place (first stage) or its plane. -/
def own (c : Dev nD) (i : Fin 10) : Fin 12 := if i.val < 7 then Fin.ofNat 12 (c.val % 8) else Fin.ofNat 12 (8 + c.val / 8)

/-- The slot in which device `c` receives what comes over link `i`: the far end's own. -/
def slotOf (c : Dev nD) (i : Fin 10) : Fin 12 := own (peer c i) (back i)

/-- The device whose data slot `j` of device `c` receives. -/
def origin (c : Dev nD) (j : Fin 12) : Dev nD :=
  if j.val < 8 then Fin.ofNat 32 (c.val / 8 * 8 + j.val) else Fin.ofNat 32 (c.val % 8 + 8 * (j.val - 8))

/-- Slot `j` of device `c` is filled by a remote copy: it is neither of the two that the device fills itself. -/
abbrev Remote (c : Dev nD) (j : Fin 12) : Prop := j ≠ own c 0 ∧ j ≠ own c 7

/-- The link back leads back, -/
theorem peer_back : ∀ (c : Dev nD) (i : Fin 10), peer (peer c i) (back i) = c := by decide +kernel
/-- and back again is the link itself. -/
theorem back_back : ∀ i : Fin 10, back (back i) = i := by decide
/-- The far end receives over a link in the device's own slot. -/
theorem slotOf_peer (c : Dev nD) (i : Fin 10) : slotOf (peer c i) (back i) = own c i := by
  unfold slotOf; rw [peer_back, back_back]
/-- A device's own slots hold its own data, -/
theorem origin_own : ∀ (c : Dev nD) (i : Fin 10), origin c (own c i) = c := by decide +kernel
/-- and so do the slots of the same numbers at the links' far ends. -/
theorem origin_peer : ∀ (c : Dev nD) (i : Fin 10), origin (peer c i) (own c i) = c := by decide +kernel
/-- What comes over a link comes into a remote slot, -/
theorem remote_slotOf : ∀ (c : Dev nD) (i : Fin 10), Remote c (slotOf c i) := by decide +kernel
/-- and so it does at the far end. -/
theorem remote_peer (c : Dev nD) (i : Fin 10) : Remote (peer c i) (own c i) := by
  have h := remote_slotOf (peer c i) (back i); rwa [slotOf_peer] at h
/-- Slots below 8 belong to the links below 7. -/
theorem own_low : ∀ (c : Dev nD) (i : Fin 10), (own c i).val < 8 ↔ i.val < 7 := by decide +kernel
/-- There are only two own slots, one for each stage, -/
theorem own_stage : ∀ (c : Dev nD) (i : Fin 10), own c i = if i.val < 7 then own c 0 else own c 7 := by decide +kernel
/-- and they differ. -/
theorem own_ne : ∀ c : Dev nD, own c 0 ≠ own c 7 := by decide
/-- Different links fill different slots. -/
theorem slotOf_injective : ∀ (c : Dev nD) (i i' : Fin 10), slotOf c i = slotOf c i' → i = i' := by decide +kernel

/-- Going over a link and looking back: the pairing of (device, link) with (far end, link back). -/
def cross : Dev nD × Fin 10 ≃ Dev nD × Fin 10 where
  toFun x := (peer x.1 x.2, back x.2)
  invFun x := (peer x.1 x.2, back x.2)
  left_inv := fun ⟨c, i⟩ => Prod.ext (peer_back c i) (back_back i)
  right_inv := fun ⟨c, i⟩ => Prod.ext (peer_back c i) (back_back i)

/-! ## The program's device numbers -/

/-- The ten signals go to the far ends of the ten links, in order. -/
theorem signal_devs : ∀ c : Dev nD,
    k0_dev1 c = (peer c 0).val ∧ k0_dev2 c = (peer c 1).val ∧ k0_dev3 c = (peer c 2).val ∧ k0_dev4 c = (peer c 3).val
    ∧ k0_dev5 c = (peer c 4).val ∧ k0_dev6 c = (peer c 5).val ∧ k0_dev7 c = (peer c 6).val
    ∧ k0_dev8 c = (peer c 7).val ∧ k0_dev9 c = (peer c 8).val ∧ k0_dev10 c = (peer c 9).val := by decide +kernel
/-- So do the ten remote copies. -/
theorem copy_devs : ∀ c : Dev nD,
    k0_dev11 c = (peer c 0).val ∧ k0_dev12 c = (peer c 1).val ∧ k0_dev13 c = (peer c 2).val ∧ k0_dev14 c = (peer c 3).val
    ∧ k0_dev15 c = (peer c 4).val ∧ k0_dev16 c = (peer c 5).val ∧ k0_dev17 c = (peer c 6).val
    ∧ k0_dev18 c = (peer c 7).val ∧ k0_dev19 c = (peer c 8).val ∧ k0_dev20 c = (peer c 9).val := by decide +kernel

/-! ## Ranges of links -/

/-- The links from number `a` up to, without, number `b`. -/
def span (a b : ℕ) : Finset (Fin 10) := Finset.univ.filter fun i => a ≤ i.val ∧ i.val < b

/-- Membership of a range. -/
theorem mem_span {a b : ℕ} {i : Fin 10} : i ∈ span a b ↔ a ≤ i.val ∧ i.val < b := by simp [span]
/-- The range of all links. -/
theorem span_all : span 0 10 = Finset.univ := by decide
/-- An empty range. -/
theorem span_self (a : ℕ) : span a a = ∅ := by
  refine Finset.eq_empty_of_forall_notMem fun i h => ?_
  rw [mem_span] at h; omega
/-- A range begins with its first link, -/
theorem span_cons (i : Fin 10) (b : ℕ) (h : i.val < b) : span i.val b = insert i (span (i.val + 1) b) := by
  ext j; rw [Finset.mem_insert, mem_span, mem_span, Fin.ext_iff]; omega
/-- which is not in the rest, -/
theorem not_mem_cons (i : Fin 10) (b : ℕ) : i ∉ span (i.val + 1) b := by rw [mem_span]; omega
/-- and ends with its last. -/
theorem span_snoc (a : ℕ) (i : Fin 10) (h : a ≤ i.val) : span a (i.val + 1) = insert i (span a i.val) := by
  ext j; rw [Finset.mem_insert, mem_span, mem_span, Fin.ext_iff]; omega
/-- which is not in the part before it. -/
theorem not_mem_snoc (a : ℕ) (i : Fin 10) : i ∉ span a i.val := by rw [mem_span]; omega

end Cert.AllReduce
-- ==== Proof.Slots.lean ====
/-
# Slots — the buffers of the all-reduce, and the landing rows they are cut into

The body works on five buffers: the device's block of the argument, the one-row result, and two scratch buffers of eight
and of four rows. Every transfer reads the result row and fills one row of a scratch buffer. This file names the rows
(`slot`), shows that the row an access of the program names is the slot of the same number, and cuts a scratch buffer
into its rows and joins the rows again.
-/
module

public import proofs.«01_k».proof.Proof.Mesh
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.MemrefSat

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

/-- The staged block. -/
abbrev xM : Memref sig .tc .vmem S512x256 .f32 := Memref.whole cc0_stg0_0
/-- The staged result, -/
abbrev oM : Memref sig .tc .vmem S1x256 .f32 := Memref.whole cc0_stg1_0
/-- the landing buffer of the first stage, -/
abbrev pM : Memref sig .tc .vmem S8x1x256 .f32 := Memref.whole cc0_scratch0
/-- and that of the second. -/
abbrev zM : Memref sig .tc .vmem S4x1x256 .f32 := Memref.whole cc0_scratch1

/-- A vector of one row. -/
abbrev Row (F : FTy → Type) : Type := S1x256.Idx → Elt F .f32

/-! ## The resources: the pipeline's rounds and this kernel's (duties named by the ten links) -/

/-- The protocol's own rounds, -/
abbrev UB : Type := URounds (GSem nD τ sig) (Fin 10)
/-- and those of the pipeline beside them. -/
abbrev UU : Type := UR sig nD τ × UB

local notation "𝕄" => MT nD τ sig Unit (Elt F) ℕ UU ℕ

/-- The pipeline's part of the resources, -/
abbrev EP : Emb (UR sig nD τ) (MT nD τ sig Unit (Elt F) ℕ UU ℕ) := embL
/-- and the protocol's. -/
abbrev ER : Emb UB (MT nD τ sig Unit (Elt F) ℕ UU ℕ) := embR

/-! ## Rows of a buffer of `n` rows -/

section Rows

variable {n : ℕ}

/-- A buffer of `n` rows. -/
abbrev Tall (n : ℕ) : Shape := ⟨3, ![n, 1, 256]⟩

/-- Row `k` lies within the buffer. -/
theorem row_inb (k : Fin n) (a : Fin 3) : (![k.val, 0, 0] : Fin 3 → ℕ) a + S1x1x256.size a ≤ (Tall n).size a := by
  have := k.isLt
  fin_cases a
  · show k.val + 1 ≤ n; omega
  · show 0 + 1 ≤ 1; omega
  · show 0 + 256 ≤ 256; omega

/-- Row `k` as a rectangle. -/
abbrev rowRect (k : Fin n) : Rect (Tall n) := Rect.unit (s := Tall n) ![k.val, 0, 0] S1x1x256.size (row_inb k)

/-- Row `k` as a memref of one row. -/
abbrev rowOf (M : Memref sig .tc .vmem (Tall n) .f32) (k : Fin n) : Memref sig .tc .vmem S1x256 .f32 :=
  (M.slice (rowRect k) (fun _ => rfl)).squeeze S1x256 squeezes_S1x1x256_S1x256

/-- Row `k` of contents `X`, and the contents of given rows. -/
def cut (X : (Tall n).Idx → Elt F .f32) (k : Fin n) : Row F :=
  fun y => X ((rowRect k).emb (Shape.reshapeEquiv squeezes_S1x1x256_S1x256.numel_eq y))
/-- The buffer made of given rows. -/
def glue (Y : Fin n → Row F) : (Tall n).Idx → Elt F .f32 := fun i => Y (i 0) (ix2 (0 : Fin 1) (i 2 : Fin 256))

omit [FloatOps F] in
/-- An entry of a row is an entry of the buffer. -/
theorem cut_apply (X : (Tall n).Idx → Elt F .f32) (k : Fin n) (y : Fin 256) :
    cut X k (ix2 (0 : Fin 1) y) = X (ix3 k (0 : Fin 1) y) := by
  unfold cut
  rw [reshapeEquiv_ix2_1ab]
  refine congrArg X (funext fun a => Fin.ext ?_)
  fin_cases a
  · show k.val + 1 * 0 = k.val; omega
  · rfl
  · show 0 + 1 * y.val = y.val; omega

omit [FloatOps F] in
/-- The rows of a buffer made of rows are these. -/
theorem cut_glue (Y : Fin n → Row F) (k : Fin n) : cut (glue Y) k = Y k := by
  funext y
  have hy : y = ix2 (0 : Fin 1) (y 1 : Fin 256) := by
    funext a; fin_cases a
    · exact Subsingleton.elim (α := Fin 1) _ _
    · rfl
  rw [hy]
  exact cut_apply (glue Y) k (y 1 : Fin 256)

/-- Different rows have no element in common. -/
theorem row_disjoint (k k' : Fin n) (h : k ≠ k') : Disjoint (rowRect k).set (rowRect k').set := by
  refine Finset.disjoint_left.mpr fun i hi hi' => h (Fin.ext ?_)
  rw [Rect.mem_set_unit] at hi hi'
  have h1 : k.val ≤ (i 0).val ∧ (i 0).val < k.val + 1 := hi 0
  have h2 : k'.val ≤ (i 0).val ∧ (i 0).val < k'.val + 1 := hi' 0
  omega

/-- The rows are the whole buffer. -/
theorem row_cover : (Finset.univ.biUnion fun k : Fin n => (rowRect k).set) = (Finset.univ : Finset (Tall n).Idx) := by
  refine Finset.eq_univ_iff_forall.mpr fun i => Finset.mem_biUnion.mpr ⟨(i 0 : Fin n), Finset.mem_univ _, ?_⟩
  rw [Rect.mem_set_unit]
  intro a
  have := (i a).isLt
  fin_cases a
  · exact ⟨Nat.le_refl _, Nat.lt_succ_self _⟩
  · exact ⟨Nat.zero_le _, this⟩
  · exact ⟨Nat.zero_le _, this⟩

end Rows

omit [FloatOps F] in
/-- Owning a memref squeezed is owning the memref, at the contents re-indexed. -/
theorem owns_squeeze (c : Dev nD) {sh s' : Shape} (m : Memref sig .tc .vmem sh .f32) (h : sh.Squeezes s') (q : PosShare TreeShare)
    (X : sh.Idx → Elt F .f32) :
    (owns (c : Thread nD τ) (m.squeeze s' h) q (fun j => X (Shape.reshapeEquiv h.numel_eq j)) : sProp 𝕄) = owns (c : Thread nD τ) m q X := by
  have hset : (m.squeeze s' h).view.set = m.view.set := View.set_reshape m.view h.numel_eq
  have h₁ : (owns (c : Thread nD τ) (m.squeeze s' h) q (fun j => X (Shape.reshapeEquiv h.numel_eq j)) : sProp 𝕄) ⊢ owns (c : Thread nD τ) m q X := by
    unfold owns
    rw [hset]
    iintro ⟨%f, %hf, H⟩
    iexists f
    isplitr
    · ipureintro
      funext i
      obtain ⟨j, rfl⟩ := (Shape.reshapeEquiv h.numel_eq).surjective i
      exact congrFun hf j
    · iexact H
  have h₂ : owns (c : Thread nD τ) m q X ⊢ (owns (c : Thread nD τ) (m.squeeze s' h) q (fun j => X (Shape.reshapeEquiv h.numel_eq j)) : sProp 𝕄) := by
    unfold owns
    rw [hset]
    iintro ⟨%f, %hf, H⟩
    iexists f
    isplitr
    · ipureintro
      rw [← hf]; rfl
    · iexact H
  exact BI.equiv_iff.mp ⟨h₁, h₂⟩

section Join

variable {n : ℕ} (c : Dev nD) (M : Memref sig .tc .vmem (Tall n) .f32)

omit [FloatOps F] in
/-- A buffer owned at `X` is its rows, each owned at its part of `X`. -/
theorem owns_rows (X : (Tall n).Idx → Elt F .f32) :
    (owns (c : Thread nD τ) M fullShare X : sProp 𝕄) ⊢ bigSep Finset.univ fun k : Fin n => owns (c : Thread nD τ) (rowOf M k) fullShare (cut X k) := by
  refine (owns_rects (c : Thread nD τ) M fullShare (fun k : Fin n => rowRect k) (fun _ _ => rfl) row_disjoint row_cover X).trans ?_
  refine Entails.of_eq (bigSep_congr fun k _ => ?_)
  rw [← owns_squeeze c _ squeezes_S1x1x256_S1x256]; rfl

/-- Rows owned at `Y` are the buffer owned at the contents with these rows. -/
theorem owns_of_rows (Y : Fin n → Row F) :
    (bigSep Finset.univ fun k : Fin n => owns (c : Thread nD τ) (rowOf M k) fullShare (Y k)) ⊢ (owns (c : Thread nD τ) M fullShare (glue Y) : sProp 𝕄) := by
  refine BIBase.Entails.trans ?_ (owns_of_rects (c : Thread nD τ) M fullShare (fun k : Fin n => rowRect k) (fun _ _ => rfl) row_disjoint row_cover (glue Y))
  refine Entails.of_eq (bigSep_congr fun k _ => ?_)
  rw [← owns_squeeze c _ squeezes_S1x1x256_S1x256]
  show _ = owns (c : Thread nD τ) (rowOf M k) fullShare (cut (glue Y) k)
  rw [cut_glue]

end Join

/-! ## Slots -/

/-- Slot `j`: a row of the first landing buffer for `j < 8`, of the second from 8 on. -/
def slot (j : Fin 12) : Memref sig .tc .vmem S1x256 .f32 :=
  if h : j.val < 8 then rowOf (n := 8) pM ⟨j.val, h⟩ else rowOf (n := 4) zM ⟨j.val - 8, by omega⟩

/-- A row access of the first landing buffer at offset `k` is slot `k`. -/
theorem slot_of_offP {off : Fin 3 → ℕ} (hb : ∀ a, off a + S1x1x256.size a ≤ S8x1x256.size a) (j : Fin 12) (hj : j.val < 8)
    (h : off = ![j.val, 0, 0]) :
    (pM.slice (Rect.unit (s := S8x1x256) off S1x1x256.size hb) (fun _ => rfl)).squeeze S1x256 squeezes_S1x1x256_S1x256 = slot j := by
  subst h; unfold slot; rw [dif_pos hj]
/-- A row access of the second landing buffer at offset `k` is slot `8 + k`. -/
theorem slot_of_offZ {off : Fin 3 → ℕ} (hb : ∀ a, off a + S1x1x256.size a ≤ S4x1x256.size a) (j : Fin 12) (hj : 8 ≤ j.val)
    (h : off = ![j.val - 8, 0, 0]) :
    (zM.slice (Rect.unit (s := S4x1x256) off S1x1x256.size hb) (fun _ => rfl)).squeeze S1x256 squeezes_S1x1x256_S1x256 = slot j := by
  subst h; unfold slot; rw [dif_neg (by omega)]

/-- The twelve slots as the eight rows and the four. -/
theorem slots_split (Φ : Memref sig .tc .vmem S1x256 .f32 → Fin 12 → sProp 𝕄) :
    bigSep Finset.univ (fun j => Φ (slot j) j)
      = iprop(bigSep Finset.univ (fun k : Fin 8 => Φ (rowOf (n := 8) pM k) (Fin.castLE (by decide) k))
        ∗ bigSep Finset.univ (fun k : Fin 4 => Φ (rowOf (n := 4) zM k) (Fin.natAdd 8 k))) := by
  rw [bigSep_univ_equiv (finSumFinEquiv (m := 8) (n := 4)) (fun j : Fin 12 => Φ (slot j) j), bigSep_univ_sum]
  rfl

/-! ## What a transfer of one row credits -/

/-- The credit of a row: what every transfer of this kernel raises its semaphores by. -/
abbrev N : ℕ := (oM : Memref sig .tc .vmem S1x256 .f32).view.dmaCredit
/-- A row has some credit, -/
theorem N_pos : 0 < N := View.dmaCredit_pos _ (by decide)
/-- the same in every slot. -/
theorem credit_slot (j : Fin 12) : (slot j).view.dmaCredit = N := by
  unfold slot; split <;> rfl

end Cert.AllReduce
-- ==== Proof.Schedule.lean ====
/-
# Schedule — the kernel's semaphores and what each of their units hands over

Every device has 24 semaphores of its own: the barrier; a send semaphore for each of the ten links; a receive semaphore
for each of the twelve slots; one for the local copies. This file says, for the rounds library, who raises each of them,
by how much, and what the raise hands to the device that waits:

* a link's neighbour raises the barrier by one unit and hands over its slot that the link fills;
* a send semaphore gives back the lent part of the result row, unchanged;
* a receive semaphore hands over the slot, filled with what its origin sent;
* the local semaphore, once per stage, gives back the lent part and the device's own slot, filled.

What the rows hold is a parameter here: `V s c` is the row that device `c` sends in stage `s`.
-/
module

public import proofs.«01_k».proof.Proof.Slots

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Semaphores -/

/-- The barrier semaphore of the program. -/
abbrev barS : Sem sig := (SemArray.scalar (sig.barrier 0 rfl) : Sems sig S_).sem

/-- Link `i`'s send semaphore. -/
def sendS (i : Fin 10) : DmaSem sig := (⟨2 + i.val, by omega⟩ : Fin 25)
/-- Receive semaphore of slot `j`. -/
def recvS (j : Fin 12) : DmaSem sig := (⟨12 + j.val, by omega⟩ : Fin 25)
/-- The local copies' semaphore. -/
def locS : DmaSem sig := (⟨24, by omega⟩ : Fin 25)

/-- The names of a device's transfer semaphores. -/
abbrev DmaIx : Type := Fin 10 ⊕ Fin 12 ⊕ Unit
/-- The names of all semaphores of a device: the barrier and the transfer semaphores. -/
abbrev CellIx : Type := Unit ⊕ DmaIx

/-- The barrier, -/
abbrev ixBar : CellIx := .inl ()
/-- link `i`'s send semaphore, -/
abbrev ixSend (i : Fin 10) : CellIx := .inr (.inl i)
/-- slot `j`'s receive semaphore, -/
abbrev ixRecv (j : Fin 12) : CellIx := .inr (.inr (.inl j))
/-- and the local copies'. -/
abbrev ixLoc : CellIx := .inr (.inr (.inr ()))

/-- The transfer semaphore of a name, -/
def osem : DmaIx → SemLoc sig
  | .inl i => .dma (sendS i)
  | .inr (.inl j) => .dma (recvS j)
  | .inr (.inr _) => .dma locS

/-- and the semaphore of any name. -/
def csem : CellIx → SemLoc sig
  | .inl _ => .reg barS
  | .inr k => osem k

/-- Semaphore `k` of device `c`. -/
abbrev cell (c : Dev nD) (k : CellIx) : GSem nD τ sig := ((c : Thread nD τ), csem k)

/-- The name of a semaphore, if it has one (the two staging semaphores have none). -/
def nameOf : SemLoc sig → Option CellIx
  | .reg _ => some ixBar
  | .dma q =>
    if h : q.val < 2 then none
    else if h' : q.val < 12 then some (ixSend ⟨q.val - 2, by omega⟩)
    else if h'' : q.val < 24 then some (ixRecv ⟨q.val - 12, by omega⟩)
    else some ixLoc

/-- A named semaphore has its name, -/
theorem nameOf_csem : ∀ k : CellIx, nameOf (csem k) = some k := by
  rintro (u | i | j | u)
  · rfl
  · revert i; decide
  · revert j; decide
  · rfl

/-- so that different names are different semaphores. -/
theorem csem_injective : Function.Injective csem := fun k k' h => by
  have := congrArg nameOf h
  rw [nameOf_csem, nameOf_csem] at this
  exact Option.some.inj this

/-! ## What the rows hold and which part of the result row is lent -/

/-- The stage a link belongs to. -/
def stage (i : Fin 10) : Fin 2 := if i.val < 7 then 0 else 1
/-- The stage a slot belongs to. -/
def slotStage (j : Fin 12) : Fin 2 := if j.val < 8 then 0 else 1

/-- The own slot of a link belongs to the stage of the link. -/
theorem slotStage_own : ∀ (c : Dev nD) (i : Fin 10), slotStage (own c i) = stage i := by decide +kernel

/-- What is left of full ownership after `k` halvings. -/
def share : ℕ → PosShare TreeShare
  | 0 => fullShare
  | k + 1 => (share k).right

/-- Which part of the result row link `i`'s copy borrows. The row is halved once for
    every copy of a stage, and the copies take the parts from the last one down, so that they come back from the last one
    down and each can be joined at once with what is there. -/
def turn (i : Fin 10) : ℕ := if i.val < 7 then 6 - i.val else 9 - i.val
/-- The part that the local copy of round `r` borrows. -/
def top (r : ℕ) : ℕ := if r = 0 then 7 else 3

/-- Part `k` of the result row. -/
def piece (c : Dev nD) (X : Row F) (k : ℕ) : sProp 𝕄 := owns (c : Thread nD τ) oM (share k).left X

/-- The parts below `k`: what is still to lend. -/
def stock (c : Dev nD) (X : Row F) : ℕ → sProp 𝕄
  | 0 => iprop(emp)
  | k + 1 => iprop(piece c X k ∗ stock c X k)

/-- The result row without the parts below `k`. -/
def remnant (c : Dev nD) (X : Row F) (k : ℕ) : sProp 𝕄 := owns (c : Thread nD τ) oM (share k) X

omit [FloatOps F] in
/-- A whole row is the parts below `k` and the remnant. -/
theorem stock_intro (c : Dev nD) (X : Row F) (k : ℕ) : owns (c : Thread nD τ) oM fullShare X ⊢ iprop(stock c X k ∗ remnant c X k) := by
  induction k with
  | zero =>
    show _ ⊢ iprop(emp ∗ remnant c X 0)
    unfold remnant
    iintro H
    isplitr; · iempintro
    iexact H
  | succ k ih =>
    refine ih.trans ?_
    show _ ⊢ iprop((piece c X k ∗ stock c X k) ∗ remnant c X (k + 1))
    unfold remnant piece
    iintro ⟨Hs, Hr⟩
    ihave Hr2 := (owns_halves (c : Thread nD τ) oM (share k) X).1 $$ Hr
    icases Hr2 with ⟨Hl, Hr⟩
    isplitl [Hs Hl]
    · isplitl [Hl]; · iexact Hl
      iexact Hs
    iexact Hr

omit [FloatOps F] in
/-- A part back joins the remnant. -/
theorem remnant_join (c : Dev nD) (X : Row F) (k : ℕ) : iprop(piece c X k ∗ remnant c X (k + 1)) ⊢ remnant c X k :=
  (owns_halves (c : Thread nD τ) oM (share k) X).2

section Rounds

variable (V : Fin 2 → Dev nD → Row F)

/-- What slot `j` of device `c` ends up with. -/
def landed (c : Dev nD) (j : Fin 12) : Row F := V (slotStage j) (origin c j)

omit [FloatOps F] in
/-- A device's own slot ends up with its own row, -/
theorem landed_own (c : Dev nD) (i : Fin 10) : landed V c (own c i) = V (stage i) c := by
  unfold landed; rw [slotStage_own, origin_own]
omit [FloatOps F] in
/-- and so does the same slot at a link's far end. -/
theorem landed_peer (c : Dev nD) (i : Fin 10) : landed V (peer c i) (own c i) = V (stage i) c := by
  unfold landed; rw [slotStage_own, origin_peer]

/-- Slot `j` of device `c` with any contents, and filled. -/
def anySlot (c : Dev nD) (j : Fin 12) : sProp 𝕄 := iprop(∃ X, owns (c : Thread nD τ) (slot j) fullShare X)
/-- Slot `j` with what lands in it. -/
def filled (c : Dev nD) (j : Fin 12) : sProp 𝕄 := owns (c : Thread nD τ) (slot j) fullShare (landed V c j)

/-- The first link of a stage: its `own` slot is the one the device fills itself. -/
def lead (s : ℕ) : Fin 10 := if s = 0 then 0 else 7

/-- Who raises semaphore `k` of device `c` in round `r`. -/
def dutiesOf (c : Dev nD) (k : CellIx) (r : ℕ) : Finset (Fin 10) :=
  match k with
  | .inl _ => if r = 0 then Finset.univ else ∅
  | .inr (.inl _) => if r = 0 then {0} else ∅
  | .inr (.inr (.inl j)) => if r = 0 ∧ Remote c j then {0} else ∅
  | .inr (.inr (.inr _)) => if r < 2 then {0} else ∅

/-- What the raise hands over. -/
def payOf (c : Dev nD) (k : CellIx) (r : ℕ) (d : Fin 10) : sProp 𝕄 :=
  match k with
  | .inl _ => anySlot (peer c d) (own c d)
  | .inr (.inl i) => piece c (V (stage i) c) (turn i)
  | .inr (.inr (.inl j)) => filled V c j
  | .inr (.inr (.inr _)) => iprop(filled V c (own c (lead r)) ∗ piece c (V (stage (lead r)) c) (top r))

/-- The schedule: the above for every named semaphore of a TensorCore. -/
def sched : Rounds.Schedule (GSem nD τ sig) (Fin 10) 𝕄 where
  duties g r := if g.1.2 = .tc then (match nameOf g.2 with | some k => dutiesOf g.1.1 k r | none => ∅) else ∅
  unitless _ := False
  amount g _ _ := if nameOf g.2 = some ixBar then 1 else N
  payload g r d := match nameOf g.2 with | some k => payOf V g.1.1 k r d | none => iprop(emp)
  amount_pos g _ _ _ := by
    by_cases h : nameOf g.2 = some ixBar
    · rw [if_pos h]; exact Nat.one_pos
    · rw [if_neg h]; exact N_pos

/-- What a semaphore hands over can be kept in it, -/
instance payOf_storable (c : Dev nD) (k : CellIx) (r : ℕ) (d : Fin 10) : BI.Storable (upEmb : UEmb _ 𝕄) (payOf V c k r d) := by
  rcases k with u | i | j | u <;> dsimp only [payOf, anySlot, piece, filled] <;> infer_instance

/-- under the schedule too. -/
instance sched_storable (g : GSem nD τ sig) (r : ℕ) (d : Fin 10) : BI.Storable (upEmb : UEmb _ 𝕄) ((sched V).payload g r d) := by
  show BI.Storable upEmb (match nameOf g.2 with | some k => payOf V g.1.1 k r d | none => iprop(emp))
  split <;> infer_instance

/-- The duties of a named semaphore, -/
theorem duties_cell (c : Dev nD) (k : CellIx) (r : ℕ) : (sched V).duties (cell c k) r = dutiesOf c k r := by
  dsimp only [sched]; rw [if_pos rfl, nameOf_csem]
/-- what they hand over, -/
theorem payload_cell (c : Dev nD) (k : CellIx) (r : ℕ) (d : Fin 10) : (sched V).payload (cell c k) r d = payOf V c k r d := by
  dsimp only [sched]; rw [nameOf_csem]
/-- how much each raises the barrier, -/
theorem amount_bar (c : Dev nD) (r : ℕ) (d : Fin 10) : (sched V).amount (cell c ixBar) r d = 1 := by
  dsimp only [sched]; rw [nameOf_csem, if_pos rfl]
/-- and a transfer semaphore. -/
theorem amount_dma (c : Dev nD) (k : DmaIx) (r : ℕ) (d : Fin 10) : (sched V).amount (cell c (.inr k)) r d = N := by
  dsimp only [sched]; rw [nameOf_csem, if_neg (fun h => by cases h)]

/-- The barrier is raised by 10 in all, -/
theorem expect_bar (c : Dev nD) : (sched V).expect (cell c ixBar) 0 = 10 := by
  unfold Schedule.expect Schedule.amountOf
  rw [Finset.sum_congr rfl fun d _ => amount_bar V c 0 d, duties_cell]; rfl
/-- and a transfer semaphore by a row's credit in a round. -/
theorem expect_dma (c : Dev nD) (k : DmaIx) (r : ℕ) (h : dutiesOf c (.inr k) r = {0}) : (sched V).expect (cell c (.inr k)) r = N := by
  unfold Schedule.expect Schedule.amountOf
  rw [duties_cell, h, Finset.sum_singleton, amount_dma]

/-- What waiting for the whole round of a transfer semaphore hands over. -/
theorem round_dma (c : Dev nD) (k : DmaIx) (r : ℕ) (h : dutiesOf c (.inr k) r = {0}) :
    bigSep ((sched V).duties (cell c (.inr k)) r \ ∅) (fun d => (sched V).payload (cell c (.inr k)) r d) = payOf V c (.inr k) r 0 := by
  rw [Finset.sdiff_empty, duties_cell, h, bigSep_singleton, payload_cell]
/-- What the barrier hands over: the slots the ten links fill, on the far ends. -/
theorem round_bar (c : Dev nD) :
    bigSep ((sched V).duties (cell c ixBar) 0 \ ∅) (fun d => (sched V).payload (cell c ixBar) 0 d)
      = bigSep Finset.univ fun i => anySlot (peer c i) (own c i) := by
  rw [Finset.sdiff_empty, duties_cell]
  exact bigSep_congr fun d _ => payload_cell V c ixBar 0 d

end Rounds

end Cert.AllReduce
-- ==== Proof.Owed.lean ====
/-
# Owed — what a device still owes the others, and why its waits cannot deadlock

A device owes one unit to the barrier of the far end of each of its links, until it has signalled it, and a row's credit to
the receive semaphore of the slot that the link fills there, until it has started the copy. Semaphores are put on four
levels: staging, send and local semaphores at 0, barriers at 1, the receive semaphores of the first stage at 2, of the second
at 3. A device may wait on a semaphore when all it owes lies on higher levels; this file says when that is so.
-/
module

public import proofs.«01_k».proof.Proof.Schedule

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the copy over link `i` will credit. -/
abbrev copyDue (c : Dev nD) (i : Fin 10) : CellTallies nD τ sig Unit := tallyAt (cell (peer c i) (ixRecv (own c i))) () N
/-- The signal owed over link `i`. -/
abbrev signalDue (c : Dev nD) (i : Fin 10) : CellTallies nD τ sig Unit := tallyAt (cell (peer c i) ixBar) () 1

/-- What device `c` owes when the copies of the links below `n` are started and the signals of the links below `m` sent. -/
def due (c : Dev nD) (n m : ℕ) : CellTallies nD τ sig Unit :=
  (∑ i ∈ span n 10, copyDue c i) + ∑ i ∈ span m 10, signalDue c i

/-- A signal sent is no longer owed; -/
theorem due_signal (c : Dev nD) (n : ℕ) (i : Fin 10) : due c n i.val = due c n (i.val + 1) + signalDue c i := by
  unfold due
  rw [span_cons i 10 i.isLt, Finset.sum_insert (not_mem_cons i 10), add_comm (signalDue c i), add_assoc]
/-- nor is a copy started. -/
theorem due_copy (c : Dev nD) (i : Fin 10) (m : ℕ) : due c i.val m = due c (i.val + 1) m + copyDue c i := by
  unfold due
  rw [span_cons i 10 i.isLt, Finset.sum_insert (not_mem_cons i 10), add_comm (copyDue c i), add_right_comm]
/-- In the end nothing is owed. -/
theorem due_none (c : Dev nD) : due c 10 10 = 0 := by
  unfold due; rw [span_self, Finset.sum_empty, Finset.sum_empty, add_zero]

/-- The level of a semaphore. -/
def height : Option CellIx → ℕ
  | some (.inl _) => 1
  | some (.inr (.inr (.inl j))) => if j.val < 8 then 2 else 3
  | _ => 0

/-- The level of a semaphore of a device: that of its name. -/
def lev (g : GSem nD τ sig) (_ : Unit) : ℕ := height (nameOf g.2)
/-- Only TensorCores have levels. -/
def L (g : GSem nD τ sig) : Finset Unit := if g.1.2 = .tc then {()} else ∅

/-- Other cores have none, -/
theorem L_of_ne (g : GSem nD τ sig) (h : g.1.2 ≠ .tc) : L g = ∅ := if_neg h
/-- and a TensorCore has one for each semaphore. -/
theorem L_tc (c : Dev nD) (sm : SemLoc sig) : L ((c : Thread nD τ), sm) = {()} := if_pos rfl

/-- The level of a named semaphore, -/
theorem lev_cell (c : Dev nD) (k : CellIx) (u : Unit) : lev (cell c k) u = height (some k) := by
  show height (nameOf (csem k)) = _; rw [nameOf_csem]
/-- and that of an own slot's receive semaphore: 2 in the first stage, 3 in the second. -/
theorem height_own (c : Dev nD) (i : Fin 10) : height (some (ixRecv (own c i))) = if i.val < 7 then 2 else 3 := by
  show (if (own c i).val < 8 then 2 else 3) = _
  exact if_congr (own_low c i) rfl rfl

/-- Something is owed only to the far ends of links not yet served. -/
theorem due_pos {c : Dev nD} {n m : ℕ} {g : GSem nD τ sig} {u : Unit} (h : 0 < due c n m g u) :
    (∃ i ∈ span n 10, g = cell (peer c i) (ixRecv (own c i))) ∨ ∃ i ∈ span m 10, g = cell (peer c i) ixBar := by
  by_contra hn
  rw [not_or] at hn
  refine absurd h (Nat.not_lt.mpr (Nat.le_zero.mpr ?_))
  have h1 : ∀ i ∈ span n 10, copyDue c i g u = 0 := fun i hi => by
    rw [tallyAt_apply, if_neg fun h' => hn.1 ⟨i, hi, h'.1⟩]
  have h2 : ∀ i ∈ span m 10, signalDue c i g u = 0 := fun i hi => by
    rw [tallyAt_apply, if_neg fun h' => hn.2 ⟨i, hi, h'.1⟩]
  unfold due
  rw [Pi.add_apply, Finsupp.add_apply, Finset.sum_apply, Finset.sum_apply, Finsupp.finset_sum_apply, Finsupp.finset_sum_apply,
    Finset.sum_eq_zero h1, Finset.sum_eq_zero h2, Nat.add_zero]

omit [FloatOps F] in
/-- A device may wait on a semaphore of a level at most `b` when the links it still owes copies on lead to levels above `b`
    and, if it still owes signals, `b` is 0. -/
theorem mayWait (c : Dev nD) (sm : SemLoc sig) (n m b : ℕ) (hb : height (nameOf sm) ≤ b)
    (hn : ∀ i ∈ span n 10, b < if i.val < 7 then 2 else 3) (hm : ∀ i ∈ span m 10, b < 1) :
    (levAts L lev : sProp 𝕄) ⊢ MayWait (c : Thread nD τ) sm () (due c n m) := by
  refine MayOwe.of_cut (L := L) (lev := lev) b (fun p hp => by rw [Finset.mem_singleton.mp hp, L_tc]; exact Finset.mem_singleton_self _)
    (fun g u hg => ?_) (fun p hp => by rw [Finset.mem_singleton.mp hp]; exact hb) (fun g u hg => ?_)
  · rcases due_pos hg with ⟨i, -, rfl⟩ | ⟨i, -, rfl⟩ <;> exact Finset.mem_singleton_self _
  · rcases due_pos hg with ⟨i, hi, rfl⟩ | ⟨i, hi, rfl⟩
    · rw [lev_cell, height_own]; exact hn i hi
    · rw [lev_cell]; exact hm i hi

end Cert.AllReduce
-- ==== Proof.Steps.lean ====
/-
# Steps — the kernel's operations on semaphores, each as one rule

The kernel's body repeats six operations: signal the far end of a link, wait for the barrier, copy the result row into the
device's own slot, copy it over a link into a slot of the far end, and wait for the one or the other to be finished. This
file states each as one rule, for every link, slot and round at once, over what the body holds at that point.
-/
module

public import proofs.«01_k».proof.Proof.Owed

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No variants are needed. -/
abbrev 𝒱₀ : Variants := Variants.none

/-- The rest of the body, run by device `c`, ends in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (V : Fin 2 → Dev nD → Row F) (K : Dev nD × CellIx → ℕ)

/-! ## Holdings over a range of links -/

omit [FloatOps F] in
/-- A range's holdings are its first link's and the others'; -/
theorem span_take (i : Fin 10) (b : ℕ) (h : i.val < b) (Φ : Fin 10 → sProp 𝕄) :
    bigSep (span i.val b) Φ = iprop(Φ i ∗ bigSep (span (i.val + 1) b) Φ) := by
  rw [span_cons i b h, bigSep_insert (not_mem_cons i b)]; rfl
omit [FloatOps F] in
/-- or its last link's and the others'; -/
theorem span_put (a : ℕ) (i : Fin 10) (h : a ≤ i.val) (Φ : Fin 10 → sProp 𝕄) :
    bigSep (span a (i.val + 1)) Φ = iprop(Φ i ∗ bigSep (span a i.val) Φ) := by
  rw [span_snoc a i h, bigSep_insert (not_mem_snoc a i)]; rfl
omit [FloatOps F] in
/-- and an empty range's are nothing. -/
theorem span_nil (a : ℕ) (Φ : Fin 10 → sProp 𝕄) : bigSep (span a a) Φ = iprop(emp) := by
  rw [span_self, bigSep_empty]; rfl

/-! ## What every step uses -/

/-- Every device's every semaphore follows the schedule, and has reached its first round. -/
def records : sProp 𝕄 :=
  bigSep Finset.univ fun x : Dev nD × CellIx => iprop(cellInv ER (sched V) (K x) (cell x.1 x.2) ∗ reached ER (cell x.1 x.2) 0)

/-- The records stand for good. -/
instance records_persistent : BI.Persistent (records V K) := by unfold records; infer_instance

/-- One semaphore's record. -/
theorem record_at (c : Dev nD) (k : CellIx) :
    records V K ⊢ iprop(cellInv ER (sched V) (K (c, k)) (cell c k) ∗ reached ER (cell c k) 0) :=
  bigSep_elim (Finset.mem_univ (c, k))

/-- The records, the levels, and that device `c` owes `O`. -/
def base (c : Dev nD) (O : CellTallies nD τ sig Unit) : sProp 𝕄 :=
  iprop(records V K ∗ levAts L lev ∗ ∃ W, owes (c : Thread nD τ) O W)

/-! ## Signals -/

/-- What the signal over link `i` uses up: its token, and the slot that the far end will fill. -/
def toSignal (c : Dev nD) (i : Fin 10) : sProp 𝕄 :=
  iprop(dutyTok ER (cell (peer c i) ixBar) 0 (back i) ∗ anySlot c (slotOf c i))

/-- The signals over the links below `n` are sent. -/
def signalling (c : Dev nD) (n : ℕ) : sProp 𝕄 := iprop(base V K c (due c 0 n) ∗ bigSep (span n 10) (toSignal c))

/-- The signal over link `i`. -/
theorem step_signal (c n : Dev nD) (i : Fin 10) (m m' : ℕ) (hm : i.val = m) (hm' : i.val + 1 = m') (hn : n = peer c i) (k' : ℕ) (hk : 1 = k') {α : Type} {Q : α → sProp 𝕄}
    {k : PUnit → Prog (TpuEff nD τ sig (Elt F) Λ₀ .tc) α} :
    signalling V K c m
      ⊢ iprop((signalling V K c m' -∗ runs c (k ⟨⟩) Q) -∗ runs c (.op (.semSignal (n : Thread nD τ) barS k') k) Q) := by
  subst hn hk hm hm'
  have hd : back i ∈ (sched V).duties (cell (peer c i) ixBar) 0 := by rw [duties_cell]; exact Finset.mem_univ _
  have hp : anySlot c (slotOf c i) ⊢ (sched V).payload ((peer c i : Thread nD τ), .reg barS) 0 (back i) := by
    have h := payload_cell V (peer c i) ixBar 0 (back i)
    refine BIBase.Entails.trans ?_ (Entails.of_eq h.symm)
    show _ ⊢ anySlot (peer (peer c i) (back i)) (own (peer c i) (back i))
    rw [peer_back]; exact .rfl
  unfold signalling base
  rw [span_take i 10 i.isLt]
  unfold toSignal
  iintro ⟨⟨#HR, #HL, %W, HO⟩, ⟨Ht, Hs⟩, Hrest⟩
  iintro Hk
  ihave #Hc := (record_at V K (peer c i) ixBar) $$ HR
  icases Hc with ⟨#HI, #Hr⟩
  iapply (Rounds.wp_signal 𝒱₀ ER (sched V) (c : Thread nD τ) none (dst := (peer c i : Thread nD τ)) (κ := K (peer c i, ixBar))
      (r := 0) (d := back i) hd (amount_bar V (peer c i) 0 (back i)) ()
      (due c 0 (i.val + 1)) (due_signal c 0 i)) $$ [HO Ht Hs]
  · isplitr; · iexact HI
    isplitl [HO]; · iexact HO
    isplitl [Ht]; · iexact Ht
    isplitl [Hs]; · iapply hp; iexact Hs
    iexact Hr
  iintro HO
  iapply Hk
  isplitl [HO]
  · isplitr; · iexact HR
    isplitr; · iexact HL
    iexists W; iexact HO
  iexact Hrest

/-! ## Waits -/

/-- Waiting for all of round `r` of semaphore `k` of device `c`. -/
theorem step_wait (c : Dev nD) (k : CellIx) (r N' : ℕ) (O : CellTallies nD τ sig Unit) (R : sProp 𝕄) {α : Type} {Q : α → sProp 𝕄}
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem k) N' P)
    (hN : (sched V).expect (cell c k) r = N')
    (hR : bigSep ((sched V).duties (cell c k) r \ ∅) (fun d => (sched V).payload (cell c k) r d) = R)
    (hO : (levAts L lev : sProp 𝕄) ⊢ MayWait (c : Thread nD τ) (csem k) () O)
    {p : PUnit → Prog (TpuEff nD τ sig (Elt F) Λ₀ .tc) α} :
    iprop(base V K c O ∗ cred (tallyAt (cell c k) () N') ∗ atPos ER (cell c k) r ∅ 0)
      ⊢ iprop((iprop(base V K c O ∗ atPos ER (cell c k) (r + 1) ∅ 0 ∗ reached ER (cell c k) (r + 1) ∗ R) -∗ runs c (p ⟨⟩) Q)
          -∗ runs c (.op w p) Q) := by
  unfold base
  iintro ⟨⟨#HR, #HL, %W, HO⟩, Hc, Ha⟩
  iintro Hk
  ihave #Hc' := (record_at V K c k) $$ HR
  icases Hc' with ⟨#HI, -⟩
  iapply (Rounds.wp_wait_rest_token 𝒱₀ ER (sched V) (c : Thread nD τ) none (κ := K (c, k)) hw (Set.mem_univ _) () (O := O) (W := W)
      (R := r) (m := 0) (T := ∅) (by rw [hN, Nat.zero_add])) $$ [Hc HO Ha]
  · isplitr; · iexact HI
    isplitl [Hc]; · iexact Hc
    isplitl [HO]; · iexact HO
    isplitr; · iapply hO; iexact HL
    iexact Ha
  rw [hR]
  iintro ⟨HO, Ha, Hr, HR'⟩
  iapply Hk
  isplitl [HO]
  · isplitr; · iexact HR
    isplitr; · iexact HL
    iexists _; iexact HO
  isplitl [Ha]; · iexact Ha
  isplitl [Hr] <;> iassumption

end Cert.AllReduce
-- ==== Proof.Transfers.lean ====
/-
# Transfers — the copies of the result row and the waits for them, each as one rule

A copy of the result row borrows one part of it, so that several copies of the row can be under way at once. This file
states, once for all links, slots and rounds: starting the local copy and the copy over a link, and waiting for the local
copy, for the copy that a link brings in, and for the copy sent over a link to have left.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Fin 2 → Dev nD → Row F) (K : Dev nD × CellIx → ℕ)

omit [FloatOps F] in
/-- Owning a memref at `X` is owning its elements at contents it reads as `X`; here the one direction, -/
theorem owns_open (c : Dev nD) (m : Memref sig .tc .vmem S1x256 .f32) (q : PosShare TreeShare) (X : Row F) :
    owns (c : Thread nD τ) m q X ⊢ (iprop(∃ f, ⌜m.view.read (Elt F) f = X⌝ ∗ (m.view.loc (c : Thread nD τ) ↦[m.view.set]{q} f)) : sProp 𝕄) := .rfl
omit [FloatOps F] in
/-- and here the other. -/
theorem owns_close (c : Dev nD) (m : Memref sig .tc .vmem S1x256 .f32) (q : PosShare TreeShare) (X : Row F)
    (f : Buf (Elt F) (m.view.loc (c : Thread nD τ))) (h : m.view.read (Elt F) f = X) :
    (m.view.loc (c : Thread nD τ) ↦[m.view.set]{q} f : sProp 𝕄) ⊢ owns (c : Thread nD τ) m q X := by
  subst h; exact owns_intro (c : Thread nD τ) m q f

omit [FloatOps F] in
/-- A slot after a copy of the row `X` into it holds `X`. -/
theorem owns_copied (c : Dev nD) (j : Fin 12) (X : Row F) (fs : (oM : Memref sig .tc .vmem S1x256 .f32).view.ty.Contents (Elt F))
    (hX : (oM : Memref sig .tc .vmem S1x256 .f32).view.read (Elt F) fs = X) (fd : Buf (Elt F) ((slot j).view.loc (c : Thread nD τ))) :
    ((slot j).view.loc (c : Thread nD τ) ↦[(slot j).view.set]{fullShare}
        ((slot j).view.write (Elt F) fd ((oM : Memref sig .tc .vmem S1x256 .f32).view.read (Elt F) fs) Finset.univ) : sProp 𝕄)
      ⊢ owns (c : Thread nD τ) (slot j) fullShare X :=
  owns_close c (slot j) fullShare X _ (by rw [View.read_write_univ]; exact hX)

/-! ## The local copy -/

/-- Starting the local copy of round `r` into the device's own slot. -/
theorem step_copy (c : Dev nD) (r : ℕ) (hr : r < 2) {i : Fin 10} {s : Fin 2} {k₀ k₁ : ℕ} (hi : lead r = i) (hst : stage (lead r) = s) (h₀ : top r = k₀) (h₁ : top r + 1 = k₁) (O : CellTallies nD τ sig Unit) {dst : Memref sig .tc .vmem S1x256 .f32}
    (hd : dst = slot (own c i)) {sm : DmaSem sig} (hs : sm = locS)
    {hsrc : (oM : Memref sig .tc .vmem S1x256 .f32).view.WordExact} {hdst : dst.view.WordExact}
    {hsem : DmaTarget.Typed (nD := nD) (τ := τ) (p := .tc) .vmem (.dma sm) (.here dst)} {α : Type} {Q : α → sProp 𝕄}
    {k : PUnit → Prog (TpuEff nD τ sig (Elt F) Λ₀ .tc) α} :
    iprop(base V K c O ∗ (dutyTok ER (cell c ixLoc) r 0 ∗ reached ER (cell c ixLoc) r) ∗ anySlot c (own c i)
        ∗ stock c (V (s) c) k₁)
      ⊢ iprop((iprop(base V K c O ∗ cred (tallyAt (cell c ixLoc) () N) ∗ stock c (V (s) c) k₀) -∗ runs c (k ⟨⟩) Q)
          -∗ runs c (.op (.enqueueDma oM (.here dst) (.dma sm) hsrc hdst hsem) k) Q) := by
  subst hi hst h₀ h₁ hd hs
  have hdu : (0 : Fin 10) ∈ (sched V).duties (cell c ixLoc) r := by
    rw [duties_cell]; show _ ∈ (if r < 2 then {0} else ∅ : Finset (Fin 10)); rw [if_pos hr]; exact Finset.mem_singleton_self _
  show iprop(base V K c O ∗ (dutyTok ER (cell c ixLoc) r 0 ∗ reached ER (cell c ixLoc) r) ∗ anySlot c (own c (lead r))
        ∗ piece c (V (stage (lead r)) c) (top r) ∗ stock c (V (stage (lead r)) c) (top r)) ⊢ _
  unfold anySlot base piece
  iintro ⟨⟨#HR, #HL, HW⟩, ⟨Ht, #Hr⟩, ⟨%X, Hd⟩, Hp, Hst⟩
  iintro Hk
  ihave Hd' := (owns_open c _ _ _) $$ Hd
  icases Hd' with ⟨%fd, -, Hd⟩
  ihave Hp' := (owns_open c _ _ _) $$ Hp
  icases Hp' with ⟨%fs, %hX, Hp⟩
  ihave #Hc := (record_at V K c ixLoc) $$ HR
  icases Hc with ⟨#HI, -⟩
  iapply (Rounds.wp_copy_pointsTo 𝒱₀ ER (sched V) (c : Thread nD τ) none (κ := K (c, ixLoc)) (r := r) (d := 0) (fs := fs) (fd := fd) hdu () N
      (credit_slot _) (amount_dma V c (.inr (.inr ())) r 0)
      (by
        refine BIBase.Entails.trans ?_ (Entails.of_eq (payload_cell V c ixLoc r 0).symm)
        show _ ⊢ iprop(filled V c (own c (lead r)) ∗ piece c (V (stage (lead r)) c) (top r))
        unfold filled piece
        rw [landed_own]
        exact BIClass.sep_mono (owns_copied c _ _ fs hX fd) (owns_close c oM _ _ fs hX))) $$ [Hp Hd Ht]
  · isplitr; · iexact HI
    isplitl [Hp]; · iexact Hp
    isplitl [Hd]; · iexact Hd
    isplitl [Ht]; · iexact Ht
    iexact Hr
  iintro Hc
  iapply Hk
  isplitl [HW]
  · isplitr; · iexact HR
    isplitr; · iexact HL
    iexact HW
  isplitl [Hc] <;> iassumption

/-- Waiting for it: the own slot is filled, and the part of the row is back. -/
theorem step_copied (c : Dev nD) (r : ℕ) (hr : r < 2) {i : Fin 10} {s : Fin 2} {k₀ k₁ : ℕ} (hi : lead r = i) (hst : stage (lead r) = s) (h₀ : top r = k₀) (h₁ : top r + 1 = k₁) (O : CellTallies nD τ sig Unit) (hO : (levAts L lev : sProp 𝕄) ⊢ MayWait (c : Thread nD τ) (.dma locS) () O)
    {sm : DmaSem sig} (hs : sm = locS) {sp sp' : Space} {s₁ s' : Shape} {e e' : EltTy} {src : Memref sig .tc sp' s' e'} {κ' : Kind} {dst : Memref sig κ' sp s₁ e}
    {hsrc : src.view.WordExact} {hdst : dst.view.WordExact} (hc : dst.view.dmaCredit = N) {α : Type} {Q : α → sProp 𝕄}
    {k : PUnit → Prog (TpuEff nD τ sig (Elt F) Λ₀ .tc) α} :
    iprop(base V K c O ∗ (cred (tallyAt (cell c ixLoc) () N) ∗ atPos ER (cell c ixLoc) r ∅ 0) ∗ remnant c (V (s) c) k₁)
      ⊢ iprop((iprop(base V K c O ∗ (atPos ER (cell c ixLoc) (r + 1) ∅ 0 ∗ reached ER (cell c ixLoc) (r + 1)) ∗ filled V c (own c i)
              ∗ remnant c (V (s) c) k₀) -∗ runs c (k ⟨⟩) Q)
          -∗ runs c (.op (.waitDma2 sm src dst hsrc hdst) k) Q) := by
  subst hi hst h₀ h₁ hs
  have hdu : dutiesOf c ixLoc r = {0} := if_pos hr
  iintro ⟨HB, ⟨Hc, Ha⟩, Hrem⟩
  iintro Hk
  iapply (step_wait V K c ixLoc r N O
    iprop(filled V c (own c (lead r)) ∗ piece c (V (stage (lead r)) c) (top r)) (by intro P; rw [← hc]; exact wpE_waitDma2_eq 𝒱₀ (c : Thread nD τ) none Set.univ P)
    (expect_dma V c _ r hdu) (round_dma V c _ r hdu) hO) $$ [HB Hc Ha]
  · isplitl [HB]; · iexact HB
    isplitl [Hc] <;> iassumption
  iintro ⟨HB, Ha, Hr, Hp⟩
  icases Hp with ⟨Hf, Hp⟩
  ihave Hrem := (remnant_join c (V (stage (lead r)) c) (top r)) $$ [Hp Hrem]
  · isplitl [Hp] <;> iassumption
  iapply Hk
  isplitl [HB]; · iexact HB
  isplitl [Ha Hr]; · isplitl [Ha] <;> iassumption
  isplitl [Hf] <;> iassumption

/-! ## The copies over the links -/

/-- What the copy over link `i` uses up: the tokens of the two semaphores it raises, the slot on the far end; beside it, the
    position at the send semaphore. -/
def toCopy (c : Dev nD) (i : Fin 10) : sProp 𝕄 :=
  iprop(dutyTok ER (cell c (ixSend i)) 0 0 ∗ dutyTok ER (cell (peer c i) (ixRecv (own c i))) 0 0 ∗ anySlot (peer c i) (own c i)
    ∗ atPos ER (cell c (ixSend i)) 0 ∅ 0)

/-- The copy over link `i` is under way: the send semaphore will be raised. -/
def underway (c : Dev nD) (i : Fin 10) : sProp 𝕄 :=
  iprop(cred (tallyAt (cell c (ixSend i)) () N) ∗ atPos ER (cell c (ixSend i)) 0 ∅ 0)

/-- The copies of stage `s`, links `a` up to `b`, are started below link `n`. -/
def copying (c : Dev nD) (s : Fin 2) (a b n : ℕ) : sProp 𝕄 :=
  iprop(base V K c (due c n 10) ∗ bigSep (span n 10) (toCopy c) ∗ bigSep (span a n) (underway c) ∗ stock c (V s c) (b - n))

/-- Link `i` lies in stage `s`, whose links are those from `a` up to `b`. -/
abbrev InStage (i : Fin 10) (s : Fin 2) (a b : ℕ) : Prop := stage i = s ∧ a ≤ i.val ∧ i.val < b ∧ b = i.val + 1 + turn i

/-- Starting the copy over link `i`. -/
theorem step_send (c n : Dev nD) (i : Fin 10) (m m' : ℕ) (hm : i.val = m) (hm' : i.val + 1 = m') {s : Fin 2} {a b : ℕ} (hi : InStage i s a b) (hn : n = peer c i)
    {dst : Memref sig .tc .vmem S1x256 .f32} (hd : dst = slot (own c i)) {sS sm : DmaSem sig} (hS : sS = sendS i) (hs : sm = recvS (own c i))
    {hsc : (dst : Memref sig (Dev.tc n : Thread nD τ).2.kind .vmem S1x256 .f32).view.ref.isScScratch = false}
    {hsrc : (oM : Memref sig .tc .vmem S1x256 .f32).view.WordExact} {hdst : dst.view.WordExact}
    {hsem : DmaTarget.Typed .vmem (.dma sm) (.remote (Dev.tc n : Thread nD τ) dst (.dma sS) hsc)}
    {α : Type} {Q : α → sProp 𝕄} {k : PUnit → Prog (TpuEff nD τ sig (Elt F) Λ₀ .tc) α} :
    copying V K c s a b m
      ⊢ iprop((copying V K c s a b m' -∗ runs c (k ⟨⟩) Q)
          -∗ runs c (.op (.enqueueDma oM (.remote (Dev.tc n : Thread nD τ) dst (.dma sS) hsc) (.dma sm) hsrc hdst hsem) k) Q) := by
  subst hn hd hS hs hm hm'
  obtain ⟨rfl, ha, hb, hlen⟩ := hi
  have hdu₁ : (0 : Fin 10) ∈ (sched V).duties (cell c (ixSend i)) 0 := by rw [duties_cell]; exact Finset.mem_singleton_self _
  have hdu₂ : (0 : Fin 10) ∈ (sched V).duties (cell (peer c i) (ixRecv (own c i))) 0 := by
    rw [duties_cell]
    show _ ∈ (if 0 = 0 ∧ Remote (peer c i) (own c i) then {0} else ∅ : Finset (Fin 10))
    rw [if_pos ⟨rfl, remote_peer c i⟩]; exact Finset.mem_singleton_self _
  have h1 : b - i.val = turn i + 1 := by omega
  have h2 : b - (i.val + 1) = turn i := by omega
  unfold copying
  rw [span_take i 10 i.isLt, span_put a i ha, h1, h2]
  show iprop(base V K c (due c i.val 10) ∗ (toCopy c i ∗ bigSep (span (i.val + 1) 10) (toCopy c)) ∗ bigSep (span a i.val) (underway c)
    ∗ piece c (V (stage i) c) (turn i) ∗ stock c (V (stage i) c) (turn i)) ⊢ _
  unfold base piece
  iintro ⟨⟨#HR, #HL, %W, HO⟩, ⟨Hi, Hrest⟩, Hu, Hp, Hst⟩
  unfold toCopy anySlot
  icases Hi with ⟨Ht₁, Ht₂, ⟨%X, Hd⟩, Ha⟩
  iintro Hk
  ihave Hd' := (owns_open (peer c i) _ _ _) $$ Hd
  icases Hd' with ⟨%fd, -, Hd⟩
  ihave Hp' := (owns_open c _ _ _) $$ Hp
  icases Hp' with ⟨%fs, %hX, Hp⟩
  ihave #Hc₁ := (record_at V K c (ixSend i)) $$ HR
  icases Hc₁ with ⟨#HI₁, #Hr₁⟩
  ihave #Hc₂ := (record_at V K (peer c i) (ixRecv (own c i))) $$ HR
  icases Hc₂ with ⟨#HI₂, #Hr₂⟩
  iapply (Rounds.wp_send_pointsTo 𝒱₀ ER (sched V) (c : Thread nD τ) none (κ₁ := K (c, ixSend i)) (κ₂ := K (peer c i, ixRecv (own c i)))
      (r₁ := 0) (r₂ := 0) (d₁ := 0) (d₂ := 0) (fs := fs) (fd := fd) hdu₁ hdu₂ () () N (credit_slot _)
      (amount_dma V c (.inl i) 0 0) (amount_dma V (peer c i) (.inr (.inl (own c i))) 0 0) (due c (i.val + 1) 10) (due_copy c i 10) (W := W)
      (by
        refine BIBase.Entails.trans ?_ (Entails.of_eq (payload_cell V c (ixSend i) 0 0).symm)
        show _ ⊢ piece c (V (stage i) c) (turn i)
        unfold piece
        exact owns_close c oM _ _ fs hX)
      (by
        refine BIBase.Entails.trans ?_ (Entails.of_eq (payload_cell V (peer c i) (ixRecv (own c i)) 0 0).symm)
        show _ ⊢ filled V (peer c i) (own c i)
        unfold filled
        rw [landed_peer]
        exact owns_copied (peer c i) _ _ fs hX fd)) $$ [Hp Hd HO Ht₁ Ht₂]
  · isplitr; · iexact HI₁
    isplitr; · iexact HI₂
    isplitl [Hp]; · iexact Hp
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]
  · isplitr; · iexact HR
    isplitr; · iexact HL
    iexists W; iexact HO
  isplitl [Hrest]; · iexact Hrest
  isplitl [Hc Ha Hu]
  · isplitl [Hc Ha]
    · unfold underway; isplitl [Hc] <;> iassumption
    iexact Hu
  iexact Hst

/-- What device `c` waits with for the copy that link `i` brings in. -/
def toReceive (c : Dev nD) (i : Fin 10) : sProp 𝕄 :=
  iprop(cred (tallyAt (cell c (ixRecv (slotOf c i))) () N) ∗ atPos ER (cell c (ixRecv (slotOf c i))) 0 ∅ 0)
/-- The receive semaphore of link `i`'s slot has been waited for. -/
def receivedAt (c : Dev nD) (i : Fin 10) : sProp 𝕄 := atPos ER (cell c (ixRecv (slotOf c i))) 1 ∅ 0

/-- The copies of the links below `n` have come in; the slots of those from `a` on are at hand. -/
def receiving (c : Dev nD) (O : CellTallies nD τ sig Unit) (a n : ℕ) : sProp 𝕄 :=
  iprop(base V K c O ∗ bigSep (span n 10) (toReceive c) ∗ bigSep (span a n) (fun i => filled V c (slotOf c i)) ∗ bigSep (span 0 n) (receivedAt c))

/-- Waiting for the copy that link `i` brings in. -/
theorem step_receive (c : Dev nD) (i : Fin 10) (m m' : ℕ) (hm : i.val = m) (hm' : i.val + 1 = m') {a : ℕ} (ha : a ≤ i.val) {O : CellTallies nD τ sig Unit}
    (hO : (levAts L lev : sProp 𝕄) ⊢ MayWait (c : Thread nD τ) (.dma (recvS (slotOf c i))) () O)
    {sm : DmaSem sig} (hs : sm = recvS (slotOf c i)) {sp sp' : Space} {s s' : Shape} {e e' : EltTy} {src : Memref sig .tc sp' s' e'} {κ' : Kind} {dst : Memref sig κ' sp s e}
    {hsrc : src.view.WordExact} {hdst : dst.view.WordExact} (hc : dst.view.dmaCredit = N) {α : Type} {Q : α → sProp 𝕄}
    {k : PUnit → Prog (TpuEff nD τ sig (Elt F) Λ₀ .tc) α} :
    receiving V K c O a m
      ⊢ iprop((receiving V K c O a m' -∗ runs c (k ⟨⟩) Q) -∗ runs c (.op (.waitDma2 sm src dst hsrc hdst) k) Q) := by
  subst hs hm hm'
  have hdu : dutiesOf c (ixRecv (slotOf c i)) 0 = {0} := if_pos ⟨rfl, remote_slotOf c i⟩
  unfold receiving
  rw [span_take i 10 i.isLt, span_put a i ha, span_put 0 i (Nat.zero_le _)]
  iintro ⟨HB, ⟨Hi, Hrest⟩, Hf, Hd⟩
  unfold toReceive
  icases Hi with ⟨Hc, Ha⟩
  iintro Hk
  iapply (step_wait V K c (ixRecv (slotOf c i)) 0 N O (filled V c (slotOf c i)) (by intro P; rw [← hc]; exact wpE_waitDma2_eq 𝒱₀ (c : Thread nD τ) none Set.univ P)
    (expect_dma V c _ 0 hdu) (round_dma V c _ 0 hdu) hO) $$ [HB Hc Ha]
  · isplitl [HB]; · iexact HB
    isplitl [Hc] <;> iassumption
  iintro ⟨HB, Ha, -, Hp⟩
  iapply Hk
  isplitl [HB]; · iexact HB
  isplitl [Hrest]; · iexact Hrest
  isplitl [Hp Hf]
  · isplitl [Hp]; · iexact Hp
    iexact Hf
  isplitl [Ha]; · unfold receivedAt; iexact Ha
  iexact Hd

/-- The send semaphore of link `i` has been waited for. -/
def sentAt (c : Dev nD) (i : Fin 10) : sProp 𝕄 := atPos ER (cell c (ixSend i)) 1 ∅ 0

/-- The copies of stage `s` over the links below `n` have left, and the parts they borrowed are back. -/
def draining (c : Dev nD) (O : CellTallies nD τ sig Unit) (s : Fin 2) (b n : ℕ) : sProp 𝕄 :=
  iprop(base V K c O ∗ bigSep (span n b) (underway c) ∗ remnant c (V s c) (b - n) ∗ bigSep (span 0 n) (sentAt c))

/-- Waiting for the copy over link `i` to have left. -/
theorem step_sent (c : Dev nD) (i : Fin 10) (m m' : ℕ) (hm : i.val = m) (hm' : i.val + 1 = m') {s : Fin 2} {a b : ℕ} (hi : InStage i s a b) {O : CellTallies nD τ sig Unit}
    (hO : (levAts L lev : sProp 𝕄) ⊢ MayWait (c : Thread nD τ) (.dma (sendS i)) () O)
    {sm : DmaSem sig} (hs : sm = sendS i) {sp sp' : Space} {s₁ s' : Shape} {e e' : EltTy} {src : Memref sig .tc sp' s' e'} {κ' : Kind} {dst : Memref sig κ' sp s₁ e}
    {hsrc : src.view.WordExact} {hdst : dst.view.WordExact} (hc : dst.view.dmaCredit = N) {α : Type} {Q : α → sProp 𝕄}
    {k : PUnit → Prog (TpuEff nD τ sig (Elt F) Λ₀ .tc) α} :
    draining V K c O s b m
      ⊢ iprop((draining V K c O s b m' -∗ runs c (k ⟨⟩) Q) -∗ runs c (.op (.waitDma2 sm src dst hsrc hdst) k) Q) := by
  subst hs hm hm'
  obtain ⟨rfl, ha, hb, hlen⟩ := hi
  have hdu : dutiesOf c (ixSend i) 0 = {0} := rfl
  have h1 : b - i.val = turn i + 1 := by omega
  have h2 : b - (i.val + 1) = turn i := by omega
  unfold draining
  rw [span_take i b hb, span_put 0 i (Nat.zero_le _), h1, h2]
  iintro ⟨HB, ⟨Hi, Hrest⟩, Hrem, Hd⟩
  unfold underway
  icases Hi with ⟨Hc, Ha⟩
  iintro Hk
  iapply (step_wait V K c (ixSend i) 0 N O (piece c (V (stage i) c) (turn i)) (by intro P; rw [← hc]; exact wpE_waitDma2_eq 𝒱₀ (c : Thread nD τ) none Set.univ P)
    (expect_dma V c _ 0 hdu) (round_dma V c _ 0 hdu) hO) $$ [HB Hc Ha]
  · isplitl [HB]; · iexact HB
    isplitl [Hc] <;> iassumption
  iintro ⟨HB, Ha, -, Hp⟩
  ihave Hrem := (remnant_join c (V (stage i) c) (turn i)) $$ [Hp Hrem]
  · isplitl [Hp]; · iexact Hp
    iexact Hrem
  iapply Hk
  isplitl [HB]; · iexact HB
  isplitl [Hrest]; · iexact Hrest
  isplitl [Hrem]; · iexact Hrem
  isplitl [Ha]; · unfold sentAt; iexact Ha
  iexact Hd

end Cert.AllReduce
-- ==== Proof.Contents.lean ====
/-
# Contents — what the buffers hold, and the slots gathered into buffers

`x c` is the block that device `c` starts from. In the first stage it sends the sum of its rows, in the second the sum of the
eight rows that came together in its plane; its result is the sum of the four rows that then came together. This file also
regroups the slots: the two landing buffers are the device's own two slots and those of its links.
-/
module

public import proofs.«01_k».proof.Proof.Transfers
public import proofs.«01_k».proof.Proof.Gen.KernelIdeal.Skeleton

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Contents

variable (x : Dev nD → Vec F S512x256 .f32)

/-- What device `c` sends in the first stage. -/
def first (c : Dev nD) : Row F := k0_pay1 (x c)
/-- The rows that come together on device `c` in the first stage. -/
def plane (c : Dev nD) : (Tall 8).Idx → Elt F .f32 := glue fun k : Fin 8 => first x (origin c (Fin.castLE (by decide) k))
/-- What device `c` sends in the second stage. -/
def second (c : Dev nD) : Row F := k0_pay2 (plane x c)
/-- The rows that come together on device `c` in the second stage. -/
def column (c : Dev nD) : (Tall 4).Idx → Elt F .f32 := glue fun k : Fin 4 => second x (origin c (Fin.natAdd 8 k))
/-- The kernel's result on device `c`. -/
def outcome (c : Dev nD) : Row F := k0_pay3 (column x c)

/-- The row that device `c` sends in stage `s`. -/
def sends (s : Fin 2) (c : Dev nD) : Row F := if s = 0 then first x c else second x c

end Contents

/-! ## Slots as rows of the buffers -/

/-- The first eight slots are the first own one and those of the first seven links; -/
theorem low_slots : ∀ c : Dev nD, (Finset.univ.map ⟨Fin.castLE (by decide : 8 ≤ 12), Fin.castLE_injective _⟩ : Finset (Fin 12))
    = insert (own c 0) ((span 0 7).image (slotOf c)) := by decide +kernel
/-- the last four are the second own one and those of the last three links. -/
theorem high_slots : ∀ c : Dev nD, (Finset.univ.map ⟨Fin.natAdd (m := 4) 8, Fin.natAdd_injective 4 8⟩ : Finset (Fin 12))
    = insert (own c 7) ((span 7 10).image (slotOf c)) := by decide +kernel
/-- The first own slot is none of the first seven links', -/
theorem own_low_notMem : ∀ c : Dev nD, own c 0 ∉ (span 0 7).image (slotOf c) := by decide +kernel
/-- and the second none of the last three links'. -/
theorem own_high_notMem : ∀ c : Dev nD, own c 7 ∉ (span 7 10).image (slotOf c) := by decide +kernel

omit [FloatOps F] in
/-- Holdings over a set of links' slots, counted by link. -/
theorem over_links (c : Dev nD) (S : Finset (Fin 10)) (Φ : Fin 12 → sProp 𝕄) :
    bigSep (S.image (slotOf c)) Φ = bigSep S fun i => Φ (slotOf c i) := by
  have h : S.image (slotOf c) = S.map ⟨slotOf c, fun i i' => slotOf_injective c i i'⟩ := (Finset.map_eq_image ⟨slotOf c, fun i i' => slotOf_injective c i i'⟩ S).symm
  rw [h, bigSep_map]; rfl

omit [FloatOps F] in
/-- The rows of the first landing buffer are the device's first own slot and those of the first seven links; -/
theorem rows_low (c : Dev nD) (Φ : Fin 12 → sProp 𝕄) :
    (bigSep Finset.univ fun k : Fin 8 => Φ (Fin.castLE (by decide) k)) = iprop(Φ (own c 0) ∗ bigSep (span 0 7) fun i => Φ (slotOf c i)) := by
  rw [← over_links c (span 0 7) Φ]
  refine Eq.trans ?_ (bigSep_insert (own_low_notMem c))
  rw [← low_slots, bigSep_map]; rfl
omit [FloatOps F] in
/-- those of the second are its second own slot and those of the last three. -/
theorem rows_high (c : Dev nD) (Φ : Fin 12 → sProp 𝕄) :
    (bigSep Finset.univ fun k : Fin 4 => Φ (Fin.natAdd 8 k)) = iprop(Φ (own c 7) ∗ bigSep (span 7 10) fun i => Φ (slotOf c i)) := by
  rw [← over_links c (span 7 10) Φ]
  refine Eq.trans ?_ (bigSep_insert (own_high_notMem c))
  rw [← high_slots, bigSep_map]; rfl

/-- A slot below 8 is a row of the first landing buffer; -/
theorem slot_low (k : Fin 8) : slot (Fin.castLE (by decide) k) = rowOf (n := 8) pM k := by
  unfold slot; exact dif_pos k.isLt
/-- from 8 on it is a row of the second. -/
theorem slot_high (k : Fin 4) : slot (Fin.natAdd 8 k) = rowOf (n := 4) zM k := by
  unfold slot
  rw [dif_neg (by show ¬ 8 + k.val < 8; omega)]
  congr 1
  exact Fin.ext (by show 8 + k.val - 8 = k.val; omega)

omit [FloatOps F] in
/-- The links' slots, in the two stages, are all the links' slots. -/
theorem links_join (Φ : Fin 10 → sProp 𝕄) : bigSep (span 0 10) Φ = iprop(bigSep (span 0 7) Φ ∗ bigSep (span 7 10) Φ) := by
  rw [show span 0 10 = span 0 7 ∪ span 7 10 by decide, bigSep_union (by decide)]; rfl

omit [FloatOps F] in
/-- The two landing buffers, of any contents, cut into slots. -/
theorem cut_buffers (c : Dev nD) (P : (Tall 8).Idx → Elt F .f32) (Z : (Tall 4).Idx → Elt F .f32) :
    iprop(owns (c : Thread nD τ) pM fullShare P ∗ owns (c : Thread nD τ) zM fullShare Z)
      ⊢ (iprop(anySlot c (own c 0) ∗ anySlot c (own c 7) ∗ bigSep Finset.univ fun i => anySlot c (slotOf c i)) : sProp 𝕄) := by
  have hP : owns (c : Thread nD τ) pM fullShare P ⊢ (iprop(anySlot c (own c 0) ∗ bigSep (span 0 7) fun i => anySlot c (slotOf c i)) : sProp 𝕄) := by
    rw [← rows_low c (fun j => anySlot c j)]
    refine (owns_rows (n := 8) c pM P).trans (bigSep_mono fun k _ => ?_)
    have h : owns (c : Thread nD τ) (rowOf (n := 8) pM k) fullShare (cut P k) ⊢ (anySlot c (Fin.castLE (by decide) k) : sProp 𝕄) := by
      unfold anySlot; rw [slot_low]; iintro H; iexists _; iexact H
    exact h
  have hZ : owns (c : Thread nD τ) zM fullShare Z ⊢ (iprop(anySlot c (own c 7) ∗ bigSep (span 7 10) fun i => anySlot c (slotOf c i)) : sProp 𝕄) := by
    rw [← rows_high c (fun j => anySlot c j)]
    refine (owns_rows (n := 4) c zM Z).trans (bigSep_mono fun k _ => ?_)
    have h : owns (c : Thread nD τ) (rowOf (n := 4) zM k) fullShare (cut Z k) ⊢ (anySlot c (Fin.natAdd 8 k) : sProp 𝕄) := by
      unfold anySlot; rw [slot_high]; iintro H; iexists _; iexact H
    exact h
  rw [← span_all, links_join]
  iintro ⟨HP, HZ⟩
  ihave HP := hP $$ HP
  ihave HZ := hZ $$ HZ
  icases HP with ⟨H0, HP⟩
  icases HZ with ⟨H7, HZ⟩
  isplitl [H0]; · iexact H0
  isplitl [H7]; · iexact H7
  isplitl [HP] <;> iassumption

/-- The slots of the first stage, filled, are the first landing buffer; -/
theorem join_low (x : Dev nD → Vec F S512x256 .f32) (c : Dev nD) :
    iprop(filled (sends x) c (own c 0) ∗ bigSep (span 0 7) fun i => filled (sends x) c (slotOf c i)) ⊢ (owns (c : Thread nD τ) pM fullShare (plane x c) : sProp 𝕄) := by
  rw [← rows_low c (fun j => filled (sends x) c j)]
  refine BIBase.Entails.trans (Entails.of_eq (bigSep_congr fun k _ => ?_)) (owns_of_rows (n := 8) c pM _)
  show filled (sends x) c (Fin.castLE (by decide) k) = owns (c : Thread nD τ) (rowOf (n := 8) pM k) fullShare (first x (origin c (Fin.castLE (by decide) k)))
  unfold filled landed
  rw [slot_low, show slotStage (Fin.castLE (by decide) k : Fin 12) = 0 from if_pos k.isLt]; rfl
/-- those of the second the second. -/
theorem join_high (x : Dev nD → Vec F S512x256 .f32) (c : Dev nD) :
    iprop(filled (sends x) c (own c 7) ∗ bigSep (span 7 10) fun i => filled (sends x) c (slotOf c i)) ⊢ (owns (c : Thread nD τ) zM fullShare (column x c) : sProp 𝕄) := by
  rw [← rows_high c (fun j => filled (sends x) c j)]
  refine BIBase.Entails.trans (Entails.of_eq (bigSep_congr fun k _ => ?_)) (owns_of_rows (n := 4) c zM _)
  show filled (sends x) c (Fin.natAdd 8 k) = owns (c : Thread nD τ) (rowOf (n := 4) zM k) fullShare (second x (origin c (Fin.natAdd 8 k)))
  unfold filled landed
  rw [slot_high, show slotStage (Fin.natAdd 8 k : Fin 12) = 1 from if_neg (by show ¬ 8 + k.val < 8; omega)]; rfl

end Cert.AllReduce
-- ==== Proof.Cells.lean ====
/-
# Cells — a device's 24 semaphores, dealt out and put to rest

What a device holds of all its semaphores is what it holds of the barrier, of the ten send semaphores, of the twelve receive
semaphores — two for its own slots, ten for the slots its links fill — and of the local one. At the end each of them has gone
through its rounds, and its counter is zero.
-/
module

public import proofs.«01_k».proof.Proof.Contents

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Dealing out -/

/-- The twelve slots are the two own ones and those of the ten links. -/
theorem all_slots : ∀ c : Dev nD, (Finset.univ : Finset (Fin 12)) = insert (own c 0) (insert (own c 7) (Finset.univ.image (slotOf c))) := by
  decide +kernel
/-- The first own slot is none of the others, -/
theorem own_first_notMem : ∀ c : Dev nD, own c 0 ∉ insert (own c 7) (Finset.univ.image (slotOf c)) := by decide +kernel
/-- and the second is no link's. -/
theorem own_second_notMem : ∀ c : Dev nD, own c 7 ∉ Finset.univ.image (slotOf c) := by decide +kernel

omit [FloatOps F] in
/-- Holdings over the twelve slots: the two own ones, and one for every link. -/
theorem slots_dealt (c : Dev nD) (Φ : Fin 12 → sProp 𝕄) :
    bigSep Finset.univ Φ = iprop(Φ (own c 0) ∗ Φ (own c 7) ∗ bigSep Finset.univ fun i => Φ (slotOf c i)) := by
  rw [← over_links c Finset.univ Φ, all_slots c]
  refine (bigSep_insert (own_first_notMem c)).trans ?_
  rw [bigSep_insert (own_second_notMem c)]; rfl

omit [FloatOps F] in
/-- Holdings over a single index are the one holding. -/
theorem only_one (Φ : Unit → sProp 𝕄) : bigSep Finset.univ Φ = Φ () := bigSep_singleton

omit [FloatOps F] in
/-- Holdings over the transfer semaphores of a device. -/
theorem dmas_dealt (Φ : DmaIx → sProp 𝕄) :
    bigSep Finset.univ Φ = iprop((bigSep Finset.univ fun i => Φ (.inl i)) ∗ (bigSep Finset.univ fun j => Φ (.inr (.inl j))) ∗ Φ (.inr (.inr ()))) := by
  rw [bigSep_univ_sum, bigSep_univ_sum, only_one]; rfl
omit [FloatOps F] in
/-- Holdings over all its semaphores: the barrier, the links' send semaphores, the receive semaphores of the own slots and the links', and the local one. -/
theorem cells_dealt (c : Dev nD) (Φ : CellIx → sProp 𝕄) :
    bigSep Finset.univ Φ = iprop(Φ ixBar ∗ (bigSep Finset.univ fun i => Φ (ixSend i))
      ∗ (Φ (ixRecv (own c 0)) ∗ Φ (ixRecv (own c 7)) ∗ bigSep Finset.univ fun i => Φ (ixRecv (slotOf c i))) ∗ Φ ixLoc) := by
  rw [bigSep_univ_sum, only_one, dmas_dealt, slots_dealt c]; rfl

/-! ## Putting to rest -/

variable (V : Fin 2 → Dev nD → Row F) (K : Dev nD × CellIx → ℕ)

omit [FloatOps F] in
/-- What follows from a holding together with a standing fact follows so for every member of a set. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h2 : bigSep S (fun i => iprop(R ∗ Φ i)) ⊢ bigSep S Ψ := bigSep_mono h
  iintro ⟨#HR, H⟩
  ihave HRs := (BI.bigSep_of_persistent S R) $$ HR
  iapply h2
  iapply (Entails.of_eq (bigSep_sep' S (fun _ => R) Φ).symm)
  isplitl [HRs] <;> iassumption

/-- A semaphore that has gone through its rounds ends with its counter at zero. -/
theorem put_to_rest (c : Dev nD) (k : CellIx) (r : ℕ) (h : ∀ r', r ≤ r' → dutiesOf c k r' = ∅) :
    iprop(records V K ∗ atPos ER (cell c k) r ∅ 0) ⊢ (iprop(|={Set.univ}=> semVal (cell c k) 0) : sProp 𝕄) := by
  iintro ⟨#HR, H⟩
  ihave #Hc := (record_at V K c k) $$ HR
  icases Hc with ⟨#HI, -⟩
  iapply (Rounds.cell_close ER (sched V) (Set.mem_univ (K (c, k))) (fun h => h) (R := r) (fun r' hr => by rw [duties_cell]; exact h r' hr))
  isplitr; · iexact HI
  iexact H

/-- So for one semaphore of every link. -/
theorem links_to_rest (c : Dev nD) (f : Fin 10 → CellIx) (r : ℕ) (h : ∀ i r', r ≤ r' → dutiesOf c (f i) r' = ∅) :
    iprop(records V K ∗ bigSep (span 0 10) fun i => atPos ER (cell c (f i)) r ∅ 0)
      ⊢ (iprop(|={Set.univ}=> bigSep Finset.univ fun i => semVal (cell c (f i)) 0) : sProp 𝕄) := by
  rw [span_all]
  refine BIBase.Entails.trans (each_with (Ψ := fun i => iprop(|={Set.univ}=> semVal (cell c (f i)) 0)) fun i _ => ?_) (bigSep_fupd _ _)
  exact put_to_rest V K c (f i) r (h i)

end Cert.AllReduce
-- ==== Proof.Program.lean ====
/-
# Program — the offsets and semaphores that the program computes

The kernel computes on words which row of a landing buffer and which semaphore of an array it uses. This file says which slot,
link or semaphore of this proof each of them is. The numbers are decided, for all 32 devices.
-/
module

public import proofs.«01_k».proof.Proof.Schedule
public import proofs.«01_k».proof.Proof.Gen.KernelIdeal.Skeleton

@[expose] public section

noncomputable section

namespace Cert.AllReduce

open Cert.KernelIdeal Cert.KernelIdeal.Gen
open Idealize.ShloMosaic

/-! ## Offsets -/

/-- The device's own row in the first stage. -/
theorem off1_own : ∀ (c : Dev nD) (i : Fin 10), i.val < 7 → k0_off1 c = ![(own c i).val, 0, 0] := by decide +kernel
/-- The own row in the second stage. -/
theorem off5_own : ∀ (c : Dev nD) (i : Fin 10), 7 ≤ i.val → k0_off5 c = ![(own c i).val - 8, 0, 0] := by decide +kernel
/-- The receive semaphore of that row. -/
theorem off2_own : ∀ (c : Dev nD) (i : Fin 10), i.val < 7 → k0_off2 c = ![(own c i).val] := by decide +kernel
/-- That row's receive semaphore in the second stage. -/
theorem off6_own : ∀ (c : Dev nD) (i : Fin 10), 7 ≤ i.val → k0_off6 c = ![(own c i).val - 8] := by decide +kernel
/-- The receive semaphore of the slot that a link fills. -/
theorem off3_slot : ∀ (c : Dev nD) (i : Fin 10), i.val < 7 → k0_off3 c (BitVec.ofNat 32 (1 + i.val)) = ![(slotOf c i).val] := by
  decide +kernel
/-- A link's receive semaphore in the second stage. -/
theorem off7_slot : ∀ (c : Dev nD) (i : Fin 10), 7 ≤ i.val → k0_off7 c (BitVec.ofNat 32 (i.val - 6)) = ![(slotOf c i).val - 8] := by
  decide +kernel
/-- Slots below 8 are filled over links below 7. -/
theorem slotOf_low : ∀ (c : Dev nD) (i : Fin 10), (slotOf c i).val < 8 ↔ i.val < 7 := by decide +kernel

/-! ## Semaphores -/

/-- Semaphore `k` of an array of consecutive ones. -/
theorem sem_consecutive (b n k : ℕ) (h : b + (⟨1, ![n]⟩ : Shape).numel ≤ 25) {off : Fin 1 → ℕ}
    (hb : ∀ a, off a + S1.size a ≤ (⟨1, ![n]⟩ : Shape).size a) (ho : off = ![k]) :
    ((((SemArray.consecutive b ⟨1, ![n]⟩ h : DmaSems sig ⟨1, ![n]⟩).slice (Rect.unit (s := ⟨1, ![n]⟩) off S1.size hb)).squeeze S_ squeezes_S1_S_).sem).val = b + k := by
  subst ho
  generalize hj : (Shape.reshapeEquiv squeezes_S1_S_.numel_eq (fun i => i.elim0 : S_.Idx) : S1.Idx) = j
  show b + (Shape.rowMajor ⟨1, ![n]⟩ ((Rect.unit (s := ⟨1, ![n]⟩) ![k] S1.size hb).emb (Shape.reshapeEquiv squeezes_S1_S_.numel_eq (fun i => i.elim0 : S_.Idx)))).val = b + k
  rw [hj, Shape.rowMajor_val_one]
  show b + (k + 1 * (j 0).val) = b + k
  have : (j 0).val < 1 := (j 0).isLt
  omega

/-- The receive semaphores of the first stage, -/
theorem sem_of_offP {off : Fin 1 → ℕ} (hb : ∀ a, off a + S1.size a ≤ S8.size a) (j : Fin 12) (h : off = ![j.val]) :
    ((cc0_scratch4.slice (Rect.unit (s := S8) off S1.size hb)).squeeze S_ squeezes_S1_S_).sem = recvS j :=
  Fin.ext (sem_consecutive 12 8 j.val hcc0_scratch4 hb h)
/-- and of the second; -/
theorem sem_of_offZ {off : Fin 1 → ℕ} (hb : ∀ a, off a + S1.size a ≤ S4.size a) (j : Fin 12) (hj : 8 ≤ j.val) (h : off = ![j.val - 8]) :
    ((cc0_scratch5.slice (Rect.unit (s := S4) off S1.size hb)).squeeze S_ squeezes_S1_S_).sem = recvS j :=
  Fin.ext ((sem_consecutive 20 4 (j.val - 8) hcc0_scratch5 hb h).trans (by show 20 + (j.val - 8) = 12 + j.val; omega))
/-- the send semaphores of the first stage, -/
theorem send_of_offP {off : Fin 1 → ℕ} (hb : ∀ a, off a + S1.size a ≤ S7.size a) (i : Fin 10) (h : off = ![i.val]) :
    ((cc0_scratch2.slice (Rect.unit (s := S7) off S1.size hb)).squeeze S_ squeezes_S1_S_).sem = sendS i :=
  Fin.ext (sem_consecutive 2 7 i.val hcc0_scratch2 hb h)
/-- and of the second; -/
theorem send_of_offZ {off : Fin 1 → ℕ} (hb : ∀ a, off a + S1.size a ≤ S3.size a) (i : Fin 10) (hi : 7 ≤ i.val) (h : off = ![i.val - 7]) :
    ((cc0_scratch3.slice (Rect.unit (s := S3) off S1.size hb)).squeeze S_ squeezes_S1_S_).sem = sendS i :=
  Fin.ext ((sem_consecutive 9 3 (i.val - 7) hcc0_scratch3 hb h).trans (by show 9 + (i.val - 7) = 2 + i.val; omega))
/-- the local copies' semaphore. -/
theorem loc_sem : cc0_scratch6.sem = locS := rfl

/-! ## Credits -/

/-- A row of a landing buffer, at whatever offset, credits what the result row does. -/
theorem credit_offP {off : Fin 3 → ℕ} (hb : ∀ a, off a + S1x1x256.size a ≤ S8x1x256.size a) :
    ((pM.slice (Rect.unit (s := S8x1x256) off S1x1x256.size hb) (fun _ => rfl)).squeeze S1x256 squeezes_S1x1x256_S1x256).view.dmaCredit = N := rfl
/-- So does a row of the second one. -/
theorem credit_offZ {off : Fin 3 → ℕ} (hb : ∀ a, off a + S1x1x256.size a ≤ S4x1x256.size a) :
    ((zM.slice (Rect.unit (s := S4x1x256) off S1x1x256.size hb) (fun _ => rfl)).squeeze S1x256 squeezes_S1x1x256_S1x256).view.dmaCredit = N := rfl

end Cert.AllReduce
-- ==== Proof.Body.lean ====
/-
# Body — the kernel's body on one device, from its first signal to its last store

The body is run operation by operation by the rules of `Steps` and `Transfers`. It starts from the device's share of the
protocol and its buffers, and ends with every semaphore at rest, nothing owed, the block unchanged and the result in the result
row.
-/
module

public import proofs.«01_k».proof.Proof.Cells
public import proofs.«01_k».proof.Proof.Program

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads and stores of whole buffers -/

/-- The printed offsets of a whole row are zero, -/
theorem zero2 : (![0, 0] : Fin 2 → Nat) = fun _ => 0 := funext fun a => by fin_cases a <;> rfl
/-- and so are those of a whole landing buffer. -/
theorem zero3 : (![0, 0, 0] : Fin 3 → Nat) = fun _ => 0 := funext fun a => by fin_cases a <;> rfl

/-- A vector-memory buffer. -/
abbrev near (i : Fin (sig.nNear .tc .vmem)) (h : sig.names .tc .vmem i = true) : Ref sig .tc := ⟨.vmem, i, h⟩
/-- The rectangle of a whole buffer. -/
abbrev full (b : Ref sig .tc) {off : Fin b.ty.shape.rank → Nat} (inb : ∀ a, off a + b.ty.shape.size a ≤ b.ty.shape.size a) : Rect b.ty.shape :=
  Rect.unit off b.ty.shape.size inb

/-- A load of a whole buffer reads what the buffer holds. -/
theorem step_load (c : Dev nD) (i : Fin (sig.nNear .tc .vmem)) (hi : sig.names .tc .vmem i = true) (X : (near i hi).ty.Contents (Elt F))
    {off : Fin (near i hi).ty.shape.rank → Nat} (hz : off = fun _ => 0)
    {inb : ∀ a, off a + (near i hi).ty.shape.size a ≤ (near i hi).ty.shape.size a}
    {hl : (Memref.whole (near i hi)).view.LoadsAt (full (near i hi) inb).toLoadRect}
    {α : Type} {Q : α → sProp 𝕄} {k : ((near i hi).ty.Contents (Elt F)) → Prog (TpuEff nD τ sig (Elt F) Λ₀ .tc) α} :
    owns (c : Thread nD τ) (Memref.whole (near i hi)) fullShare X
      ⊢ iprop((owns (c : Thread nD τ) (Memref.whole (near i hi)) fullShare X -∗ runs c (k X) Q)
          -∗ runs c (.op (.load (Memref.whole (near i hi)) (full (near i hi) inb).toLoadRect hl) k) Q) := by
  have h := Memref.readAt_unit_zero (Elt F) (near i hi) hz inb X
  rw [owns_whole]
  iintro H Hk
  iapply (wp_load 𝒱₀ (c : Thread nD τ) none Set.univ (m := Memref.whole (near i hi)) (Finset.subset_univ _)) $$ H
  iintro H
  rw [h]
  iapply Hk
  iexact H

/-- A store to a whole buffer leaves what was stored. -/
theorem step_store (c : Dev nD) (i : Fin (sig.nNear .tc .vmem)) (hi : sig.names .tc .vmem i = true) (X w : (near i hi).ty.Contents (Elt F))
    {off : Fin (near i hi).ty.shape.rank → Nat} (hz : off = fun _ => 0)
    {inb : ∀ a, off a + (near i hi).ty.shape.size a ≤ (near i hi).ty.shape.size a}
    {hx : ((Memref.whole (near i hi)).access (full (near i hi) inb)).Stores Finset.univ}
    {hm : (Finset.univ : Finset (full (near i hi) inb).shape.Idx) = Finset.univ ∨ ∀ a, (full (near i hi) inb).stride a = 1}
    {α : Type} {Q : α → sProp 𝕄} {k : PUnit → Prog (TpuEff nD τ sig (Elt F) Λ₀ .tc) α} :
    owns (c : Thread nD τ) (Memref.whole (near i hi)) fullShare X
      ⊢ iprop((owns (c : Thread nD τ) (Memref.whole (near i hi)) fullShare w -∗ runs c (k ⟨⟩) Q)
          -∗ runs c (.op (.store (Memref.whole (near i hi)) (full (near i hi) inb) w Finset.univ hx hm) k) Q) := by
  have h := Memref.write_access_unit_zero_univ (Elt F) (near i hi) hz inb X w
  rw [owns_whole, owns_whole]
  iintro H Hk
  iapply (wp_store 𝒱₀ (c : Thread nD τ) none Set.univ (m := Memref.whole (near i hi)) (r := full (near i hi) inb) (Mk := Finset.univ) (Finset.subset_univ _)) $$ H
  iintro H
  rw [h]
  iapply Hk
  iexact H

/-! ## Which waits may happen when -/

/-- Once the copies of the first stage are started, the local copy may be waited for; -/
theorem wait_loc (c : Dev nD) (n : ℕ) : (levAts L lev : sProp 𝕄) ⊢ MayWait (c : Thread nD τ) (.dma locS) () (due c n 10) := by
  refine mayWait c (csem ixLoc) n 10 0 (by rw [nameOf_csem]; exact le_refl 0) (fun i _ => by split <;> omega) (fun i hi => ?_)
  rw [span_self] at hi; exact absurd hi (Finset.notMem_empty i)
/-- so may a copy sent over a link; -/
theorem wait_send (c : Dev nD) (i : Fin 10) (n : ℕ) : (levAts L lev : sProp 𝕄) ⊢ MayWait (c : Thread nD τ) (.dma (sendS i)) () (due c n 10) := by
  refine mayWait c (csem (ixSend i)) n 10 0 (by rw [nameOf_csem]; exact le_refl 0) (fun i _ => by split <;> omega) (fun i hi => ?_)
  rw [span_self] at hi; exact absurd hi (Finset.notMem_empty i)
/-- so may the copies that the first stage brings in, while the second stage's are still owed; -/
theorem wait_low (c : Dev nD) (i : Fin 10) (h : i.val < 7) : (levAts L lev : sProp 𝕄) ⊢ MayWait (c : Thread nD τ) (.dma (recvS (slotOf c i))) () (due c 7 10) := by
  refine mayWait c (csem (ixRecv (slotOf c i))) 7 10 2 (by rw [nameOf_csem]; show (if (slotOf c i).val < 8 then 2 else 3) ≤ 2; rw [if_pos ((slotOf_low c i).2 h)]) (fun i hi => ?_) (fun i hi => ?_)
  · rw [if_neg (by have := (mem_span.1 hi).1; omega)]; omega
  · rw [span_self] at hi; exact absurd hi (Finset.notMem_empty i)
/-- so may those of the second, when nothing is owed. -/
theorem wait_high (c : Dev nD) (i : Fin 10) : (levAts L lev : sProp 𝕄) ⊢ MayWait (c : Thread nD τ) (.dma (recvS (slotOf c i))) () (due c 10 10) := by
  refine mayWait c (csem (ixRecv (slotOf c i))) 10 10 3 (by rw [nameOf_csem]; show (if (slotOf c i).val < 8 then 2 else 3) ≤ 3; split <;> omega) (fun i hi => ?_) (fun i hi => ?_)
  all_goals rw [span_self] at hi; exact absurd hi (Finset.notMem_empty i)
/-- The barrier is waited for while all copies are owed. -/
theorem wait_bar (c : Dev nD) : (levAts L lev : sProp 𝕄) ⊢ MayWait (c : Thread nD τ) (csem ixBar) () (due c 0 10) := by
  refine mayWait c (csem ixBar) 0 10 1 (by rw [nameOf_csem]; exact le_refl 1) (fun i _ => by split <;> omega) (fun i hi => ?_)
  rw [span_self] at hi; exact absurd hi (Finset.notMem_empty i)

/-! ## What a device starts from and ends with -/

section Share

variable (c : Dev nD)

/-- Its positions: before the first round of each of its semaphores. -/
def positions : sProp 𝕄 := bigSep Finset.univ fun k : CellIx => atPos ER (cell c k) 0 ∅ 0
/-- Its tokens: one for every signal and every copy it makes. -/
def tokens : sProp 𝕄 :=
  iprop((bigSep Finset.univ fun i : Fin 10 => dutyTok ER (cell (peer c i) ixBar) 0 (back i))
    ∗ (bigSep Finset.univ fun i : Fin 10 => dutyTok ER (cell (peer c i) (ixRecv (own c i))) 0 0)
    ∗ (bigSep Finset.univ fun i : Fin 10 => dutyTok ER (cell c (ixSend i)) 0 0)
    ∗ dutyTok ER (cell c ixLoc) 0 0 ∗ dutyTok ER (cell c ixLoc) 1 0)
/-- Its credits: what it waits for that others raise. -/
def credits : sProp 𝕄 :=
  iprop(cred (tallyAt (cell c ixBar) () 10) ∗ bigSep Finset.univ fun i : Fin 10 => cred (tallyAt (cell c (ixRecv (slotOf c i))) () N))
/-- At the end, all its semaphores are at zero. -/
def atRest : sProp 𝕄 := bigSep Finset.univ fun k : CellIx => semVal (cell c k) 0

end Share

variable (x : Dev nD → Vec F S512x256 .f32) (K : Dev nD × CellIx → ℕ)

/-- Before the signals: the slots are taken apart, and what the signals use is laid out. -/
theorem lay_out (c : Dev nD) (P : (Tall 8).Idx → Elt F .f32) (Z : (Tall 4).Idx → Elt F .f32) :
    iprop(base (sends x) K c (due c 0 0) ∗ positions c ∗ tokens c ∗ credits c ∗ owns (c : Thread nD τ) pM fullShare P ∗ owns (c : Thread nD τ) zM fullShare Z)
      ⊢ (iprop(signalling (sends x) K c 0
          ∗ (cred (tallyAt (cell c ixBar) () 10) ∗ atPos ER (cell c ixBar) 0 ∅ 0)
          ∗ (bigSep (span 0 10) fun i => iprop(dutyTok ER (cell c (ixSend i)) 0 0 ∗ dutyTok ER (cell (peer c i) (ixRecv (own c i))) 0 0 ∗ atPos ER (cell c (ixSend i)) 0 ∅ 0))
          ∗ bigSep (span 0 10) (toReceive c)
          ∗ (anySlot c (own c 0) ∗ anySlot c (own c 7))
          ∗ (dutyTok ER (cell c ixLoc) 0 0 ∗ dutyTok ER (cell c ixLoc) 1 0 ∗ atPos ER (cell c ixLoc) 0 ∅ 0)
          ∗ (atPos ER (cell c (ixRecv (own c 0))) 0 ∅ 0 ∗ atPos ER (cell c (ixRecv (own c 7))) 0 ∅ 0)) : sProp 𝕄) := by
  unfold positions tokens credits signalling toSignal toReceive
  rw [cells_dealt c, span_all, bigSep_sep', bigSep_sep', bigSep_sep', bigSep_sep']
  iintro ⟨HB, ⟨HpB, HpS, ⟨Hp0, Hp7, HpR⟩, HpL⟩, ⟨HtB, HtR, HtS, HtL0, HtL1⟩, ⟨HcB, HcR⟩, HP, HZ⟩
  ihave Hs := (cut_buffers c P Z) $$ [HP HZ]
  · isplitl [HP] <;> iassumption
  icases Hs with ⟨H0, H7, Hs⟩
  isplitl [HB HtB Hs]
  · isplitl [HB]; · iexact HB
    isplitl [HtB] <;> iassumption
  isplitl [HcB HpB]; · (isplitl [HcB] <;> iassumption)
  isplitl [HtS HtR HpS]
  · isplitl [HtS]; · iexact HtS
    isplitl [HtR] <;> iassumption
  isplitl [HcR HpR]; · (isplitl [HcR] <;> iassumption)
  isplitl [H0 H7]; · (isplitl [H0] <;> iassumption)
  isplitl [HtL0 HtL1 HpL]
  · isplitl [HtL0]; · iexact HtL0
    isplitl [HtL1] <;> iassumption
  isplitl [Hp0] <;> iassumption

/-- After the barrier: the slots on the far ends complete what the copies use. -/
theorem lay_copies (c : Dev nD) :
    iprop((bigSep Finset.univ fun i => anySlot (peer c i) (own c i))
        ∗ (bigSep (span 0 10) fun i => iprop(dutyTok ER (cell c (ixSend i)) 0 0 ∗ dutyTok ER (cell (peer c i) (ixRecv (own c i))) 0 0 ∗ atPos ER (cell c (ixSend i)) 0 ∅ 0)))
      ⊢ (bigSep (span 0 10) (toCopy c) : sProp 𝕄) := by
  unfold toCopy
  rw [span_all, bigSep_sep', bigSep_sep', bigSep_sep', bigSep_sep', bigSep_sep']
  iintro ⟨Hs, H1, H2, H3⟩
  isplitl [H1]; · iexact H1
  isplitl [H2]; · iexact H2
  isplitl [Hs] <;> iassumption

/-- After the last wait, every semaphore is put to rest. -/
theorem all_to_rest (c : Dev nD) :
    iprop(records (sends x) K ∗ atPos ER (cell c ixBar) 1 ∅ 0 ∗ bigSep (span 0 10) (sentAt c) ∗ bigSep (span 0 10) (receivedAt c)
        ∗ atPos ER (cell c (ixRecv (own c 0))) 0 ∅ 0 ∗ atPos ER (cell c (ixRecv (own c 7))) 0 ∅ 0 ∗ atPos ER (cell c ixLoc) 2 ∅ 0)
      ⊢ (iprop(|={Set.univ}=> atRest c) : sProp 𝕄) := by
  unfold atRest sentAt receivedAt
  rw [cells_dealt c]
  iintro ⟨#HR, HB, HS, HV, H0, H7, HL⟩
  imod (put_to_rest (sends x) K c ixBar 1 (fun r hr => if_neg (by omega))) $$ [HB] with HB
  · isplitr; · iexact HR
    iexact HB
  imod (links_to_rest (sends x) K c ixSend 1 (fun i r hr => if_neg (by omega))) $$ [HS] with HS
  · isplitr; · iexact HR
    iexact HS
  imod (links_to_rest (sends x) K c (fun i => ixRecv (slotOf c i)) 1 (fun i r hr => if_neg (by omega))) $$ [HV] with HV
  · isplitr; · iexact HR
    iexact HV
  imod (put_to_rest (sends x) K c (ixRecv (own c 0)) 0 (fun r hr => if_neg (fun h => h.2.1 rfl))) $$ [H0] with H0
  · isplitr; · iexact HR
    iexact H0
  imod (put_to_rest (sends x) K c (ixRecv (own c 7)) 0 (fun r hr => if_neg (fun h => h.2.2 rfl))) $$ [H7] with H7
  · isplitr; · iexact HR
    iexact H7
  imod (put_to_rest (sends x) K c ixLoc 2 (fun r hr => if_neg (by omega))) $$ [HL] with HL
  · isplitr; · iexact HR
    iexact HL
  imodintro
  isplitl [HB]; · iexact HB
  isplitl [HS]; · iexact HS
  isplitl [H0 H7 HV]
  · isplitl [H0]; · iexact H0
    isplitl [H7] <;> iassumption
  iexact HL

end Cert.AllReduce
-- ==== Proof.Run.lean ====
/-
# Run — the kernel's body run on one device, operation by operation
-/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S512x256 .f32) (K : Dev nD × CellIx → ℕ)

/-- The body of the kernel on device `c`. -/
abbrev bodyOf : Prog (TpuEff nD τ sig (Elt F) Λ₀ .tc) PUnit :=
  cc0_body xM (Memref.isWhole_whole _) oM (Memref.isWhole_whole _) pM (Memref.isWhole_whole _) zM (Memref.isWhole_whole _)
    cc0_scratch2 cc0_scratch3 cc0_scratch4 cc0_scratch5 cc0_scratch6

set_option maxHeartbeats 4000000 in
/-- The body, from the device's share to its results. -/
theorem body_runs (c : Dev nD) (P : (Tall 8).Idx → Elt F .f32) (Z : (Tall 4).Idx → Elt F .f32) (o : Row F) (Q : PUnit → sProp 𝕄) :
    iprop(base (sends x) K c (due c 0 0) ∗ positions c ∗ tokens c ∗ credits c ∗ owns (c : Thread nD τ) xM fullShare (x c)
        ∗ owns (c : Thread nD τ) oM fullShare o ∗ owns (c : Thread nD τ) pM fullShare P ∗ owns (c : Thread nD τ) zM fullShare Z)
      ⊢ iprop((iprop(base (sends x) K c 0 ∗ atRest c ∗ owns (c : Thread nD τ) xM fullShare (x c) ∗ owns (c : Thread nD τ) oM fullShare (outcome x c)
            ∗ owns (c : Thread nD τ) pM fullShare (plane x c) ∗ owns (c : Thread nD τ) zM fullShare (column x c)) -∗ Q ⟨⟩)
          -∗ runs c bodyOf Q) := by
  obtain ⟨d0, d1, d2, d3, d4, d5, d6, d7, d8, d9⟩ := signal_devs c
  obtain ⟨g0, g1, g2, g3, g4, g5, g6, g7, g8, g9⟩ := copy_devs c
  have e0 : (⟨k0_dev1 c, k0_dev1_lt c⟩ : Dev nD) = peer c 0 := Fin.ext d0
  have e1 : (⟨k0_dev2 c, k0_dev2_lt c⟩ : Dev nD) = peer c 1 := Fin.ext d1
  have e2 : (⟨k0_dev3 c, k0_dev3_lt c⟩ : Dev nD) = peer c 2 := Fin.ext d2
  have e3 : (⟨k0_dev4 c, k0_dev4_lt c⟩ : Dev nD) = peer c 3 := Fin.ext d3
  have e4 : (⟨k0_dev5 c, k0_dev5_lt c⟩ : Dev nD) = peer c 4 := Fin.ext d4
  have e5 : (⟨k0_dev6 c, k0_dev6_lt c⟩ : Dev nD) = peer c 5 := Fin.ext d5
  have e6 : (⟨k0_dev7 c, k0_dev7_lt c⟩ : Dev nD) = peer c 6 := Fin.ext d6
  have e7 : (⟨k0_dev8 c, k0_dev8_lt c⟩ : Dev nD) = peer c 7 := Fin.ext d7
  have e8 : (⟨k0_dev9 c, k0_dev9_lt c⟩ : Dev nD) = peer c 8 := Fin.ext d8
  have e9 : (⟨k0_dev10 c, k0_dev10_lt c⟩ : Dev nD) = peer c 9 := Fin.ext d9
  have f0 : (⟨k0_dev11 c, k0_dev11_lt c⟩ : Dev nD) = peer c 0 := Fin.ext g0
  have f1 : (⟨k0_dev12 c, k0_dev12_lt c⟩ : Dev nD) = peer c 1 := Fin.ext g1
  have f2 : (⟨k0_dev13 c, k0_dev13_lt c⟩ : Dev nD) = peer c 2 := Fin.ext g2
  have f3 : (⟨k0_dev14 c, k0_dev14_lt c⟩ : Dev nD) = peer c 3 := Fin.ext g3
  have f4 : (⟨k0_dev15 c, k0_dev15_lt c⟩ : Dev nD) = peer c 4 := Fin.ext g4
  have f5 : (⟨k0_dev16 c, k0_dev16_lt c⟩ : Dev nD) = peer c 5 := Fin.ext g5
  have f6 : (⟨k0_dev17 c, k0_dev17_lt c⟩ : Dev nD) = peer c 6 := Fin.ext g6
  have f7 : (⟨k0_dev18 c, k0_dev18_lt c⟩ : Dev nD) = peer c 7 := Fin.ext g7
  have f8 : (⟨k0_dev19 c, k0_dev19_lt c⟩ : Dev nD) = peer c 8 := Fin.ext g8
  have f9 : (⟨k0_dev20 c, k0_dev20_lt c⟩ : Dev nD) = peer c 9 := Fin.ext g9
  unfold runs bodyOf
  simp only [cc0_body_eq_skeleton]; unfold cc0_body_skel
  simp only [k0_part11_eq_skeleton]; unfold k0_part11_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  iintro ⟨HB, Hpos, Htok, Hcred, Hx, Ho, HP, HZ⟩ Hk
  ihave H := (lay_out x K c P Z) $$ [HB Hpos Htok Hcred HP HZ]
  · isplitl [HB]; · iexact HB
    isplitl [Hpos]; · iexact Hpos
    isplitl [Htok]; · iexact Htok
    isplitl [Hcred]; · iexact Hcred
    isplitl [HP] <;> iassumption
  icases H with ⟨H, ⟨HcB, HpB⟩, Hcopy, Hrecv, ⟨Hown0, Hown7⟩, ⟨HtL0, HtL1, HpL⟩, Hp0, Hp7⟩
  -- the signals
  iapply (step_signal (sends x) K c _ 0 0 1 rfl rfl e0 _ (by decide)) $$ H; iintro H
  iapply (step_signal (sends x) K c _ 1 1 2 rfl rfl e1 _ (by decide)) $$ H; iintro H
  iapply (step_signal (sends x) K c _ 2 2 3 rfl rfl e2 _ (by decide)) $$ H; iintro H
  iapply (step_signal (sends x) K c _ 3 3 4 rfl rfl e3 _ (by decide)) $$ H; iintro H
  iapply (step_signal (sends x) K c _ 4 4 5 rfl rfl e4 _ (by decide)) $$ H; iintro H
  iapply (step_signal (sends x) K c _ 5 5 6 rfl rfl e5 _ (by decide)) $$ H; iintro H
  iapply (step_signal (sends x) K c _ 6 6 7 rfl rfl e6 _ (by decide)) $$ H; iintro H
  iapply (step_signal (sends x) K c _ 7 7 8 rfl rfl e7 _ (by decide)) $$ H; iintro H
  iapply (step_signal (sends x) K c _ 8 8 9 rfl rfl e8 _ (by decide)) $$ H; iintro H
  iapply (step_signal (sends x) K c _ 9 9 10 rfl rfl e9 _ (by decide)) $$ H; iintro H
  unfold signalling
  icases H with ⟨HB, -⟩
  -- the row sums
  iapply (step_load c 0 rfl (x c) zero2) $$ Hx; iintro Hx
  iapply (step_load c 1 rfl o zero2) $$ Ho; iintro Ho
  iapply (step_store c 1 rfl o (first x c) zero2) $$ Ho; iintro Ho
  -- the barrier
  iapply (step_wait (sends x) K c ixBar 0 10 (due c 0 10) _ (wpE_semWait_eq 𝒱₀ (c : Thread nD τ) none Set.univ) (expect_bar (sends x) c)
    (round_bar (sends x) c) (wait_bar c)) $$ [HB HcB HpB]
  · isplitl [HB]; · iexact HB
    isplitl [HcB] <;> iassumption
  iintro ⟨HB, HpB, -, Hfar⟩
  ihave Hcopy := (lay_copies c) $$ [Hfar Hcopy]
  · isplitl [Hfar] <;> iassumption
  unfold base
  icases HB with ⟨#HR, HB⟩
  ihave HB := (show iprop(records (sends x) K ∗ levAts L lev ∗ ∃ W, owes (c : Thread nD τ) (due c 0 10) W) ⊢ base (sends x) K c (due c 0 10) from .rfl) $$ [HB]
  · isplitr; · iexact HR
    iexact HB
  -- stage 1: the local copy and the copies over the links
  ihave Ho := (show owns (c : Thread nD τ) oM fullShare (first x c) ⊢ owns (c : Thread nD τ) oM fullShare (sends x 0 c) from .rfl) $$ Ho
  ihave Hst := (stock_intro c (sends x 0 c) 8) $$ Ho
  icases Hst with ⟨Hst, Hrem⟩
  iapply (step_copy (sends x) K c 0 (by decide) (i := 0) (s := 0) (k₀ := 7) (k₁ := 8) rfl rfl rfl rfl (due c 0 10) (slot_of_offP _ (own c 0) ((own_low c 0).2 (by decide)) (off1_own c 0 (by decide))) loc_sem) $$ [HB HtL0 Hown0 Hst]
  · isplitl [HB]; · iexact HB
    isplitl [HtL0]
    · isplitl [HtL0]; · iexact HtL0
      ihave #Hr := (record_at (sends x) K c ixLoc) $$ HR; icases Hr with ⟨-, #Hr⟩; iexact Hr
    isplitl [Hown0] <;> iassumption
  iintro ⟨HB, HcL, Hst⟩
  ihave H := (show iprop(base (sends x) K c (due c 0 10) ∗ bigSep (span 0 10) (toCopy c) ∗ stock c (sends x 0 c) 7) ⊢ copying (sends x) K c 0 0 7 0 from by
      unfold copying; rw [span_nil]
      iintro ⟨H1, H2, H3⟩
      isplitl [H1]; · iexact H1
      isplitl [H2]; · iexact H2
      isplitr; · iempintro
      iexact H3) $$ [HB Hcopy Hst]
  · isplitl [HB]; · iexact HB
    isplitl [Hcopy] <;> iassumption
  iapply (step_send (sends x) K c _ 0 0 1 rfl rfl (s := 0) (a := 0) (b := 7) (by decide) f0 (slot_of_offP _ (own c 0) ((own_low c 0).2 (by decide)) (off1_own c 0 (by decide))) (send_of_offP _ 0 rfl) (sem_of_offP _ (own c 0) (off2_own c 0 (by decide)))) $$ H; iintro H
  iapply (step_send (sends x) K c _ 1 1 2 rfl rfl (s := 0) (a := 0) (b := 7) (by decide) f1 (slot_of_offP _ (own c 1) ((own_low c 1).2 (by decide)) (off1_own c 1 (by decide))) (send_of_offP _ 1 rfl) (sem_of_offP _ (own c 1) (off2_own c 1 (by decide)))) $$ H; iintro H
  iapply (step_send (sends x) K c _ 2 2 3 rfl rfl (s := 0) (a := 0) (b := 7) (by decide) f2 (slot_of_offP _ (own c 2) ((own_low c 2).2 (by decide)) (off1_own c 2 (by decide))) (send_of_offP _ 2 rfl) (sem_of_offP _ (own c 2) (off2_own c 2 (by decide)))) $$ H; iintro H
  iapply (step_send (sends x) K c _ 3 3 4 rfl rfl (s := 0) (a := 0) (b := 7) (by decide) f3 (slot_of_offP _ (own c 3) ((own_low c 3).2 (by decide)) (off1_own c 3 (by decide))) (send_of_offP _ 3 rfl) (sem_of_offP _ (own c 3) (off2_own c 3 (by decide)))) $$ H; iintro H
  iapply (step_send (sends x) K c _ 4 4 5 rfl rfl (s := 0) (a := 0) (b := 7) (by decide) f4 (slot_of_offP _ (own c 4) ((own_low c 4).2 (by decide)) (off1_own c 4 (by decide))) (send_of_offP _ 4 rfl) (sem_of_offP _ (own c 4) (off2_own c 4 (by decide)))) $$ H; iintro H
  iapply (step_send (sends x) K c _ 5 5 6 rfl rfl (s := 0) (a := 0) (b := 7) (by decide) f5 (slot_of_offP _ (own c 5) ((own_low c 5).2 (by decide)) (off1_own c 5 (by decide))) (send_of_offP _ 5 rfl) (sem_of_offP _ (own c 5) (off2_own c 5 (by decide)))) $$ H; iintro H
  iapply (step_send (sends x) K c _ 6 6 7 rfl rfl (s := 0) (a := 0) (b := 7) (by decide) f6 (slot_of_offP _ (own c 6) ((own_low c 6).2 (by decide)) (off1_own c 6 (by decide))) (send_of_offP _ 6 rfl) (sem_of_offP _ (own c 6) (off2_own c 6 (by decide)))) $$ H; iintro H
  unfold copying
  icases H with ⟨HB, Hcopy, Hway, -⟩
  iapply (step_copied (sends x) K c 0 (by decide) (i := 0) (s := 0) (k₀ := 7) (k₁ := 8) rfl rfl rfl rfl (due c 7 10) (wait_loc c 7) loc_sem (credit_offP _)) $$ [HB HcL HpL Hrem]
  · isplitl [HB]; · iexact HB
    isplitl [HcL HpL]; · (isplitl [HcL] <;> iassumption)
    iexact Hrem
  iintro ⟨HB, ⟨HpL, #HrL⟩, Hself, Hrem⟩
  ihave H := (show iprop(base (sends x) K c (due c 7 10) ∗ bigSep (span 0 10) (toReceive c)) ⊢ receiving (sends x) K c (due c 7 10) 0 0 from by
      unfold receiving; rw [span_nil, span_nil]
      iintro ⟨H1, H2⟩
      isplitl [H1]; · iexact H1
      isplitl [H2]; · iexact H2
      isplitr <;> iempintro) $$ [HB Hrecv]
  · isplitl [HB] <;> iassumption
  iapply (step_receive (sends x) K c 0 0 1 rfl rfl (a := 0) (by decide) (wait_low c 0 (by decide)) (sem_of_offP _ (slotOf c 0) (off3_slot c 0 (by decide))) (credit_offP _)) $$ H; iintro H
  iapply (step_receive (sends x) K c 1 1 2 rfl rfl (a := 0) (by decide) (wait_low c 1 (by decide)) (sem_of_offP _ (slotOf c 1) (off3_slot c 1 (by decide))) (credit_offP _)) $$ H; iintro H
  iapply (step_receive (sends x) K c 2 2 3 rfl rfl (a := 0) (by decide) (wait_low c 2 (by decide)) (sem_of_offP _ (slotOf c 2) (off3_slot c 2 (by decide))) (credit_offP _)) $$ H; iintro H
  iapply (step_receive (sends x) K c 3 3 4 rfl rfl (a := 0) (by decide) (wait_low c 3 (by decide)) (sem_of_offP _ (slotOf c 3) (off3_slot c 3 (by decide))) (credit_offP _)) $$ H; iintro H
  iapply (step_receive (sends x) K c 4 4 5 rfl rfl (a := 0) (by decide) (wait_low c 4 (by decide)) (sem_of_offP _ (slotOf c 4) (off3_slot c 4 (by decide))) (credit_offP _)) $$ H; iintro H
  iapply (step_receive (sends x) K c 5 5 6 rfl rfl (a := 0) (by decide) (wait_low c 5 (by decide)) (sem_of_offP _ (slotOf c 5) (off3_slot c 5 (by decide))) (credit_offP _)) $$ H; iintro H
  iapply (step_receive (sends x) K c 6 6 7 rfl rfl (a := 0) (by decide) (wait_low c 6 (by decide)) (sem_of_offP _ (slotOf c 6) (off3_slot c 6 (by decide))) (credit_offP _)) $$ H; iintro H
  unfold receiving
  icases H with ⟨HB, Hrecv, Hfill, Hgot⟩
  ihave H := (show iprop(base (sends x) K c (due c 7 10) ∗ bigSep (span 0 7) (underway c) ∗ remnant c (sends x 0 c) 7) ⊢ draining (sends x) K c (due c 7 10) 0 7 0 from by
      unfold draining; rw [span_nil]
      iintro ⟨H1, H2, H3⟩
      isplitl [H1]; · iexact H1
      isplitl [H2]; · iexact H2
      isplitl [H3]; · iexact H3
      iempintro) $$ [HB Hway Hrem]
  · isplitl [HB]; · iexact HB
    isplitl [Hway] <;> iassumption
  iapply (step_sent (sends x) K c 0 0 1 rfl rfl (s := 0) (a := 0) (b := 7) (by decide) (wait_send c 0 7) (send_of_offP _ 0 rfl) rfl) $$ H; iintro H
  iapply (step_sent (sends x) K c 1 1 2 rfl rfl (s := 0) (a := 0) (b := 7) (by decide) (wait_send c 1 7) (send_of_offP _ 1 rfl) rfl) $$ H; iintro H
  iapply (step_sent (sends x) K c 2 2 3 rfl rfl (s := 0) (a := 0) (b := 7) (by decide) (wait_send c 2 7) (send_of_offP _ 2 rfl) rfl) $$ H; iintro H
  iapply (step_sent (sends x) K c 3 3 4 rfl rfl (s := 0) (a := 0) (b := 7) (by decide) (wait_send c 3 7) (send_of_offP _ 3 rfl) rfl) $$ H; iintro H
  iapply (step_sent (sends x) K c 4 4 5 rfl rfl (s := 0) (a := 0) (b := 7) (by decide) (wait_send c 4 7) (send_of_offP _ 4 rfl) rfl) $$ H; iintro H
  iapply (step_sent (sends x) K c 5 5 6 rfl rfl (s := 0) (a := 0) (b := 7) (by decide) (wait_send c 5 7) (send_of_offP _ 5 rfl) rfl) $$ H; iintro H
  iapply (step_sent (sends x) K c 6 6 7 rfl rfl (s := 0) (a := 0) (b := 7) (by decide) (wait_send c 6 7) (send_of_offP _ 6 rfl) rfl) $$ H; iintro H
  unfold draining
  icases H with ⟨HB, -, Ho, Hsent⟩
  ihave Ho := (show remnant c (sends x 0 c) (7 - 7) ⊢ owns (c : Thread nD τ) oM fullShare (sends x 0 c) from .rfl) $$ Ho
  ihave HP := (join_low x c) $$ [Hself Hfill]
  · isplitl [Hself] <;> iassumption
  iapply (step_load c 2 rfl (plane x c) zero3) $$ HP; iintro HP
  iapply (step_load c 1 rfl (sends x 0 c) zero2) $$ Ho; iintro Ho
  iapply (step_store c 1 rfl (sends x 0 c) (second x c) zero2) $$ Ho; iintro Ho
  -- stage 2: the local copy and the copies over the links
  ihave Ho := (show owns (c : Thread nD τ) oM fullShare (second x c) ⊢ owns (c : Thread nD τ) oM fullShare (sends x 1 c) from .rfl) $$ Ho
  ihave Hst := (stock_intro c (sends x 1 c) 4) $$ Ho
  icases Hst with ⟨Hst, Hrem⟩
  iapply (step_copy (sends x) K c 1 (by decide) (i := 7) (s := 1) (k₀ := 3) (k₁ := 4) rfl rfl rfl rfl (due c 7 10) (slot_of_offZ _ (own c 7) (not_lt.1 (mt (own_low c 7).1 (by decide))) (off5_own c 7 (by decide))) loc_sem) $$ [HB HtL1 Hown7 Hst]
  · isplitl [HB]; · iexact HB
    isplitl [HtL1]
    · isplitl [HtL1]; · iexact HtL1
      iexact HrL
    isplitl [Hown7] <;> iassumption
  iintro ⟨HB, HcL, Hst⟩
  ihave H := (show iprop(base (sends x) K c (due c 7 10) ∗ bigSep (span 7 10) (toCopy c) ∗ stock c (sends x 1 c) 3) ⊢ copying (sends x) K c 1 7 10 7 from by
      unfold copying; rw [span_nil]
      iintro ⟨H1, H2, H3⟩
      isplitl [H1]; · iexact H1
      isplitl [H2]; · iexact H2
      isplitr; · iempintro
      iexact H3) $$ [HB Hcopy Hst]
  · isplitl [HB]; · iexact HB
    isplitl [Hcopy] <;> iassumption
  iapply (step_send (sends x) K c _ 7 7 8 rfl rfl (s := 1) (a := 7) (b := 10) (by decide) f7 (slot_of_offZ _ (own c 7) (not_lt.1 (mt (own_low c 7).1 (by decide))) (off5_own c 7 (by decide))) (send_of_offZ _ 7 (by decide) rfl) (sem_of_offZ _ (own c 7) (not_lt.1 (mt (own_low c 7).1 (by decide))) (off6_own c 7 (by decide)))) $$ H; iintro H
  iapply (step_send (sends x) K c _ 8 8 9 rfl rfl (s := 1) (a := 7) (b := 10) (by decide) f8 (slot_of_offZ _ (own c 8) (not_lt.1 (mt (own_low c 8).1 (by decide))) (off5_own c 8 (by decide))) (send_of_offZ _ 8 (by decide) rfl) (sem_of_offZ _ (own c 8) (not_lt.1 (mt (own_low c 8).1 (by decide))) (off6_own c 8 (by decide)))) $$ H; iintro H
  iapply (step_send (sends x) K c _ 9 9 10 rfl rfl (s := 1) (a := 7) (b := 10) (by decide) f9 (slot_of_offZ _ (own c 9) (not_lt.1 (mt (own_low c 9).1 (by decide))) (off5_own c 9 (by decide))) (send_of_offZ _ 9 (by decide) rfl) (sem_of_offZ _ (own c 9) (not_lt.1 (mt (own_low c 9).1 (by decide))) (off6_own c 9 (by decide)))) $$ H; iintro H
  unfold copying
  icases H with ⟨HB, Hcopy, Hway, -⟩
  iapply (step_copied (sends x) K c 1 (by decide) (i := 7) (s := 1) (k₀ := 3) (k₁ := 4) rfl rfl rfl rfl (due c 10 10) (wait_loc c 10) loc_sem (credit_offZ _)) $$ [HB HcL HpL Hrem]
  · isplitl [HB]; · iexact HB
    isplitl [HcL HpL]; · (isplitl [HcL] <;> iassumption)
    iexact Hrem
  iintro ⟨HB, ⟨HpL, #HrL⟩, Hself, Hrem⟩
  ihave H := (show iprop(base (sends x) K c (due c 10 10) ∗ bigSep (span 7 10) (toReceive c) ∗ bigSep (span 0 7) (receivedAt c)) ⊢ receiving (sends x) K c (due c 10 10) 7 7 from by
      unfold receiving; rw [span_nil]
      iintro ⟨H1, H2, H3⟩
      isplitl [H1]; · iexact H1
      isplitl [H2]; · iexact H2
      isplitr; · iempintro
      iexact H3) $$ [HB Hrecv Hgot]
  · isplitl [HB]; · iexact HB
    isplitl [Hrecv] <;> iassumption
  iapply (step_receive (sends x) K c 7 7 8 rfl rfl (a := 7) (by decide) (wait_high c 7) (sem_of_offZ _ (slotOf c 7) (not_lt.1 (mt (slotOf_low c 7).1 (by decide))) (off7_slot c 7 (by decide))) (credit_offZ _)) $$ H; iintro H
  iapply (step_receive (sends x) K c 8 8 9 rfl rfl (a := 7) (by decide) (wait_high c 8) (sem_of_offZ _ (slotOf c 8) (not_lt.1 (mt (slotOf_low c 8).1 (by decide))) (off7_slot c 8 (by decide))) (credit_offZ _)) $$ H; iintro H
  iapply (step_receive (sends x) K c 9 9 10 rfl rfl (a := 7) (by decide) (wait_high c 9) (sem_of_offZ _ (slotOf c 9) (not_lt.1 (mt (slotOf_low c 9).1 (by decide))) (off7_slot c 9 (by decide))) (credit_offZ _)) $$ H; iintro H
  unfold receiving
  icases H with ⟨HB, Hrecv, Hfill, Hgot⟩
  ihave H := (show iprop(base (sends x) K c (due c 10 10) ∗ bigSep (span 7 10) (underway c) ∗ remnant c (sends x 1 c) 3 ∗ bigSep (span 0 7) (sentAt c)) ⊢ draining (sends x) K c (due c 10 10) 1 10 7 from by
      unfold draining
      exact .rfl) $$ [HB Hway Hrem Hsent]
  · isplitl [HB]; · iexact HB
    isplitl [Hway]; · iexact Hway
    isplitl [Hrem] <;> iassumption
  iapply (step_sent (sends x) K c 7 7 8 rfl rfl (s := 1) (a := 7) (b := 10) (by decide) (wait_send c 7 10) (send_of_offZ _ 7 (by decide) rfl) rfl) $$ H; iintro H
  iapply (step_sent (sends x) K c 8 8 9 rfl rfl (s := 1) (a := 7) (b := 10) (by decide) (wait_send c 8 10) (send_of_offZ _ 8 (by decide) rfl) rfl) $$ H; iintro H
  iapply (step_sent (sends x) K c 9 9 10 rfl rfl (s := 1) (a := 7) (b := 10) (by decide) (wait_send c 9 10) (send_of_offZ _ 9 (by decide) rfl) rfl) $$ H; iintro H
  unfold draining
  icases H with ⟨HB, -, Ho, Hsent⟩
  ihave Ho := (show remnant c (sends x 1 c) (10 - 10) ⊢ owns (c : Thread nD τ) oM fullShare (sends x 1 c) from .rfl) $$ Ho
  ihave HZ := (join_high x c) $$ [Hself Hfill]
  · isplitl [Hself] <;> iassumption
  iapply (step_load c 3 rfl (column x c) zero3) $$ HZ; iintro HZ
  iapply (step_load c 1 rfl (sends x 1 c) zero2) $$ Ho; iintro Ho
  iapply (step_store c 1 rfl (sends x 1 c) (outcome x c) zero2) $$ Ho; iintro Ho
  -- the end
  imod (all_to_rest x K c) $$ [HpB Hsent Hgot Hp0 Hp7 HpL] with Hrest
  · isplitr; · iexact HR
    isplitl [HpB]; · iexact HpB
    isplitl [Hsent]; · iexact Hsent
    isplitl [Hgot]; · iexact Hgot
    isplitl [Hp0]; · iexact Hp0
    isplitl [Hp7] <;> iassumption
  rw [wp_ret]; imodintro
  iapply Hk
  rw [due_none]; unfold base
  isplitl [HB]; · iexact HB
  isplitl [Hrest]; · iexact Hrest
  isplitl [Hx]; · iexact Hx
  isplitl [Ho]; · iexact Ho
  isplitl [HP] <;> iassumption

end Cert.AllReduce
-- ==== Proof.Deal.lean ====
/-
# Deal — the protocol set up at launch and dealt to the devices

At launch every semaphore gets its record, its position and the tokens of the duties on it. The tokens of a barrier and of a
receive semaphore go to the devices that raise them: over the link they belong to. Every device gets as credit what the others
owe it.
-/
module

public import proofs.«01_k».proof.Proof.Body
public import proofs.«01_k».proof.Proof.Gen.KernelIdeal.Launch
public import Idealize.ShloMosaic.Lib.Pipeline.Launch

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Semaphores and tokens as minted -/

/-- Different devices' semaphores, and differently named ones, are different. -/
theorem cell_injective : Function.Injective (fun ck : Dev nD × CellIx => cell ck.1 ck.2) := by
  rintro ⟨c, k⟩ ⟨c', k'⟩ h
  have hc : c = c' := congrArg (fun g : GSem nD τ sig => g.1.1) h
  have hk : k = k' := csem_injective (congrArg Prod.snd h)
  rw [hc, hk]

/-- All semaphores of the protocol. -/
def allCells : Finset (GSem nD τ sig) := Finset.univ.map ⟨fun ck : Dev nD × CellIx => cell ck.1 ck.2, cell_injective⟩

/-- The duties on a device's semaphores: one for each link's signal, arriving copy and sent copy, and two local copies. -/
abbrev DutyIx : Type := Fin 10 ⊕ Fin 10 ⊕ Fin 10 ⊕ Fin 2

/-- A duty's semaphore, round and raiser. -/
def dutyOf (c : Dev nD) : DutyIx → CellIx × ℕ × Fin 10
  | .inl i => (ixBar, 0, i)
  | .inr (.inl i) => (ixRecv (slotOf c i), 0, 0)
  | .inr (.inr (.inl i)) => (ixSend i, 0, 0)
  | .inr (.inr (.inr r)) => (ixLoc, r.val, 0)

/-- Different duties differ in semaphore, round or raiser. -/
theorem dutyOf_injective (c : Dev nD) : Function.Injective (dutyOf c) := by
  rintro (i | i | i | r) (i' | i' | i' | r') h
  all_goals (simp only [dutyOf, Prod.mk.injEq, ixBar, ixSend, ixRecv, ixLoc, Sum.inl.injEq, Sum.inr.injEq, reduceCtorEq, false_and, and_true, true_and] at h)
  · rw [h]
  · rw [slotOf_injective c i i' h]
  · rw [h]
  · rw [Fin.ext h]

/-- The token of a duty on a device. -/
abbrev tokenOf (ct : Dev nD × DutyIx) : GSem nD τ sig × ℕ × Fin 10 := (cell ct.1 (dutyOf ct.1 ct.2).1, (dutyOf ct.1 ct.2).2)

/-- Different duties have different tokens. -/
theorem tokenOf_injective : Function.Injective tokenOf := by
  rintro ⟨c, t⟩ ⟨c', t'⟩ h
  have h1 := cell_injective (a₁ := (c, (dutyOf c t).1)) (a₂ := (c', (dutyOf c' t').1)) (congrArg Prod.fst h)
  have hc : c = c' := congrArg Prod.fst h1
  subst hc
  have ht : t = t' := dutyOf_injective c (Prod.ext (congrArg Prod.snd h1) (congrArg (fun x : GSem nD τ sig × ℕ × Fin 10 => x.2) h))
  rw [ht]

/-- The tokens of all duties on all devices. -/
def allTokens : Finset (GSem nD τ sig × ℕ × Fin 10) := Finset.univ.map ⟨tokenOf, tokenOf_injective⟩

/-- The launch element: the pipeline's, and the protocol's. -/
def seed : UU := (initOf (Pipeline.cells cfgs cellOf_inj) (Pipeline.launchToks cfgs cellOf_inj), initOf allCells allTokens)

variable (V : Fin 2 → Dev nD → Row F)

/-- The tokens of the duties on device `c`'s semaphores. -/
def minted (c : Dev nD) : sProp 𝕄 :=
  iprop((bigSep Finset.univ fun i : Fin 10 => dutyTok ER (cell c ixBar) 0 i)
    ∗ (bigSep Finset.univ fun i : Fin 10 => dutyTok ER (cell c (ixRecv (slotOf c i))) 0 0)
    ∗ (bigSep Finset.univ fun i : Fin 10 => dutyTok ER (cell c (ixSend i)) 0 0)
    ∗ dutyTok ER (cell c ixLoc) 0 0 ∗ dutyTok ER (cell c ixLoc) 1 0)

/-- What the launch deals device `c` at first. -/
def dealt (c : Dev nD) : sProp 𝕄 :=
  iprop((bigSep Finset.univ fun k : CellIx => roundState ER (sched V) (cell c k) 0)
    ∗ positions c ∗ (bigSep Finset.univ fun k : CellIx => reached ER (cell c k) 0) ∗ minted c)

omit [FloatOps F] in
/-- Holdings over two indices. -/
theorem over_two (Φ : Fin 2 → sProp 𝕄) : bigSep Finset.univ Φ = iprop(Φ 0 ∗ Φ 1) := bigSep_univ_eq_bigSepL [0, 1] (by decide) (by decide) Φ

omit [FloatOps F] in
/-- Holdings over all semaphores, counted by device and name. -/
theorem over_cells (Φ : GSem nD τ sig → sProp 𝕄) :
    bigSep allCells Φ = bigSep Finset.univ fun c : Dev nD => bigSep Finset.univ fun k : CellIx => Φ (cell c k) := by
  unfold allCells; rw [bigSep_map, bigSep_univ_prod]; rfl
omit [FloatOps F] in
/-- All tokens are every device's minted ones. -/
theorem over_tokens : bigSep allTokens (fun t => (dutyTok ER t.1 t.2.1 t.2.2 : sProp 𝕄)) = bigSep Finset.univ minted := by
  unfold allTokens; rw [bigSep_map, bigSep_univ_prod]
  refine bigSep_congr fun c _ => ?_
  unfold minted
  rw [bigSep_univ_sum, bigSep_univ_sum, bigSep_univ_sum, over_two]; rfl

/-- The protocol's half of the launch element, dealt to the devices. -/
theorem deal : BI.own (ER (initOf allCells allTokens)) ⊢ (|==> bigSep Finset.univ (dealt V) : sProp 𝕄) := by
  iintro H
  imod (Rounds.fund ER (sched V) allCells allTokens) $$ H with ⟨Hst, Hr, Hat, Htok⟩
  imodintro
  ihave Hst := (Entails.of_eq (over_cells fun g => roundState ER (sched V) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_tokens (F := F))) $$ Htok
  unfold dealt positions
  rw [bigSep_sep', bigSep_sep', bigSep_sep']
  isplitl [Hst]; · iexact Hst
  isplitl [Hat]; · iexact Hat
  isplitl [Hr] <;> iassumption

/-! ## The records -/

omit [FloatOps F] in
/-- A device's semaphores: the kernel's own transfer semaphores, and the barrier. -/
theorem own_sems (c : Dev nD) : (Pipeline.ownSems0 (Ix := Unit) (Name := ℕ) (U := UU) (Lvl := ℕ) (Val := Elt F) (τ := τ) osem c : sProp 𝕄)
    = bigSep Finset.univ fun k : DmaIx => semVal (cell c (.inr k)) 0 := rfl
omit [FloatOps F] in
/-- The barrier is the only semaphore that outlives the call. -/
theorem unscoped_sems (c : Dev nD) : (unscopedSems0 c : sProp 𝕄) = semVal (cell c ixBar) 0 := by
  unfold unscopedSems0; rw [bigSep_eq_bigSepL_of_eq [SemLoc.reg barS] (by decide) (by decide)]; rfl
omit [FloatOps F] in
/-- Both together are all its semaphores. -/
theorem all_sems (c : Dev nD) :
    (atRest c : sProp 𝕄) = iprop(unscopedSems0 c ∗ Pipeline.ownSems0 (Ix := Unit) (Name := ℕ) (U := UU) (Lvl := ℕ) (Val := Elt F) (τ := τ) osem c) := by
  rw [own_sems, unscoped_sems]; unfold atRest
  rw [bigSep_univ_sum, only_one]; rfl

/-- A device's semaphores at zero become records. -/
theorem make_records (c : Dev nD) :
    iprop(Pipeline.ownSems0 (Ix := Unit) (Name := ℕ) (U := UU) (Lvl := ℕ) (Val := Elt F) (τ := τ) osem c ∗ unscopedSems0 c ∗ dealt V c)
      ⊢ |={Set.univ}=> iprop((bigSep Finset.univ fun k : CellIx => iprop(∃ κ : ℕ, cellInv ER (sched V) κ (cell c k)))
          ∗ positions c ∗ (bigSep Finset.univ fun k : CellIx => reached ER (cell c k) 0) ∗ minted c) := by
  have h : iprop(atRest c ∗ bigSep Finset.univ fun k : CellIx => roundState ER (sched V) (cell c k) 0)
      ⊢ (|={Set.univ}=> bigSep Finset.univ fun k : CellIx => iprop(∃ κ : ℕ, cellInv ER (sched V) κ (cell c k)) : sProp 𝕄) := by
    unfold atRest
    rw [← bigSep_sep']
    exact (bigSep_mono fun k _ => (Rounds.body_intro ER (sched V) (cell c k)).trans inv_alloc).trans (bigSep_fupd _ _)
  rw [all_sems] at h
  unfold dealt
  iintro ⟨Hos, Hus, Hst, Hrest⟩
  imod h $$ [Hos Hus Hst] with HI
  · isplitl [Hos Hus]; · (isplitl [Hus] <;> iassumption)
    iexact Hst
  imodintro
  isplitl [HI] <;> iassumption

/-! ## The tokens over the links -/

omit [FloatOps F] in
/-- Holdings over all devices and links, looked at from the far ends. -/
theorem across (Φ : Dev nD → Fin 10 → sProp 𝕄) :
    (bigSep Finset.univ fun c : Dev nD => bigSep Finset.univ fun i : Fin 10 => Φ c i)
      = bigSep Finset.univ fun c : Dev nD => bigSep Finset.univ fun i : Fin 10 => Φ (peer c i) (back i) := by
  rw [← bigSep_univ_prod (fun ci : Dev nD × Fin 10 => Φ ci.1 ci.2), bigSep_univ_equiv cross (fun ci : Dev nD × Fin 10 => Φ ci.1 ci.2),
    bigSep_univ_prod]; rfl

omit [FloatOps F] in
/-- The minted tokens reach the devices that need them. -/
theorem hand_round : (bigSep Finset.univ fun c : Dev nD => (minted c : sProp 𝕄)) = bigSep Finset.univ fun c : Dev nD => tokens c := by
  unfold minted tokens
  simp only [bigSep_sep']
  rw [across fun c i => dutyTok ER (cell c ixBar) 0 i, across fun c i => dutyTok ER (cell c (ixRecv (slotOf c i))) 0 0]
  simp only [slotOf_peer]

/-- What a device holds of the protocol, under some names. -/
def share' (c : Dev nD) : sProp 𝕄 := iprop(∃ K, records V K ∗ positions c ∗ tokens c)

/-- The records, made by each device for itself, are everybody's. -/
theorem pool :
    (bigSep Finset.univ fun c : Dev nD => iprop((bigSep Finset.univ fun k : CellIx => iprop(∃ κ : ℕ, cellInv ER (sched V) κ (cell c k)))
          ∗ positions c ∗ (bigSep Finset.univ fun k : CellIx => reached ER (cell c k) 0) ∗ minted c) : sProp 𝕄)
      ⊢ bigSep Finset.univ (share' V) := by
  have hone (K : Dev nD × CellIx → ℕ) (c : Dev nD) : iprop(records V K ∗ positions c ∗ tokens c) ⊢ share' V c := by
    unfold share'; iintro H; iexists K; iexact H
  have hall (K : Dev nD × CellIx → ℕ) : iprop(records V K ∗ bigSep Finset.univ fun c : Dev nD => iprop(positions c ∗ tokens c)) ⊢ bigSep Finset.univ (share' V) :=
    each_with fun c _ => hone K c
  rw [bigSep_sep', bigSep_sep', bigSep_sep', hand_round, ← bigSep_univ_prod (fun x : Dev nD × CellIx => iprop(∃ κ : ℕ, cellInv ER (sched V) κ (cell x.1 x.2))),
    ← bigSep_univ_prod (fun x : Dev nD × CellIx => (reached ER (cell x.1 x.2) 0 : sProp 𝕄))]
  iintro ⟨HI, Hat, HR, Htok⟩
  ihave HK := (BI.bigSep_exists_pi Finset.univ (fun (x : Dev nD × CellIx) (κ : ℕ) => (cellInv ER (sched V) κ (cell x.1 x.2) : sProp 𝕄))) $$ HI
  icases HK with ⟨%K, HI⟩
  iapply (hall K)
  unfold records
  rw [bigSep_sep', bigSep_sep']
  isplitl [HI HR]; · (isplitl [HI] <;> iassumption)
  isplitl [Hat] <;> iassumption

/-- The set-up of the protocol, from all devices' semaphores and deals at once. -/
theorem set_up : (bigSep Finset.univ fun c => iprop(Pipeline.ownSems0 (Ix := Unit) (Name := ℕ) (U := UU) (Lvl := ℕ) (Val := Elt F) (τ := τ) osem c ∗ unscopedSems0 c ∗ dealt V c) : sProp 𝕄)
    ⊢ |={Set.univ}=> bigSep Finset.univ (share' V) :=
  ((bigSep_mono fun c _ => make_records V c).trans (bigSep_fupd _ _)).trans (BI.fupd_mono (pool V))

/-! ## The credits -/

/-- What device `d` owes at launch to semaphore `k` of device `c`. -/
theorem owed_at (c d : Dev nD) (k : CellIx) :
    due d 0 0 (cell c k) () = (∑ i : Fin 10, if c = peer d i ∧ k = ixRecv (own d i) then N else 0) + ∑ i : Fin 10, if c = peer d i ∧ k = ixBar then 1 else 0 := by
  have h (c' : Dev nD) (k' : CellIx) (n : ℕ) : (tallyAt (cell c' k') () n : CellTallies nD τ sig Unit) (cell c k) () = if c = c' ∧ k = k' then n else 0 := by
    rw [tallyAt_apply]
    refine if_congr ⟨fun h => ?_, fun h => ⟨by rw [h.1, h.2], rfl⟩⟩ rfl rfl
    have := cell_injective (a₁ := (c, k)) (a₂ := (c', k')) h.1
    exact ⟨congrArg Prod.fst this, congrArg Prod.snd this⟩
  unfold due
  rw [span_all, Pi.add_apply, Finsupp.add_apply, Finset.sum_apply, Finset.sum_apply, Finsupp.finset_sum_apply, Finsupp.finset_sum_apply]
  exact congrArg₂ _ (Finset.sum_congr rfl fun i _ => h _ _ _) (Finset.sum_congr rfl fun i _ => h _ _ _)

/-- A sum over devices and links of what is counted at the far ends. -/
theorem sum_across (f : Dev nD → Fin 10 → ℕ) : (∑ d : Dev nD, ∑ i : Fin 10, f (peer d i) (back i)) = ∑ d : Dev nD, ∑ i : Fin 10, f d i := by
  rw [← Fintype.sum_prod_type' (fun d i => f (peer d i) (back i)), ← Fintype.sum_prod_type' f]
  exact Equiv.sum_comp cross fun x : Dev nD × Fin 10 => f x.1 x.2

/-- All together owe a barrier ten signals, -/
theorem owed_bar (c : Dev nD) : (∑ d : Dev nD, due d 0 0 (cell c ixBar) ()) = 10 := by
  have h (d : Dev nD) : due d 0 0 (cell c ixBar) () = ∑ i : Fin 10, if c = peer d i then 1 else 0 := by
    rw [owed_at, Finset.sum_eq_zero fun i _ => if_neg fun h => (by cases h.2 : False), Nat.zero_add]
    exact Finset.sum_congr rfl fun i _ => if_congr ⟨fun h => h.1, fun h => ⟨h, rfl⟩⟩ rfl rfl
  rw [Finset.sum_congr rfl fun d _ => h d, sum_across fun d _ => if c = d then 1 else 0]
  simp only [Finset.sum_const, Finset.card_univ, Fintype.card_fin, smul_eq_mul, mul_ite, mul_one, mul_zero, Finset.sum_ite_eq, Finset.mem_univ, if_true]
/-- and a receive semaphore one row. -/
theorem owed_recv (c : Dev nD) (j : Fin 10) : (∑ d : Dev nD, due d 0 0 (cell c (ixRecv (slotOf c j))) ()) = N := by
  have h (d : Dev nD) : due d 0 0 (cell c (ixRecv (slotOf c j))) () = ∑ i : Fin 10, if c = peer d i ∧ slotOf c j = slotOf (peer d i) (back i) then N else 0 := by
    rw [owed_at]
    have h0 : (∑ i : Fin 10, if c = peer d i ∧ ixRecv (slotOf c j) = ixBar then 1 else 0) = 0 := Finset.sum_eq_zero fun i _ => if_neg fun h => (by cases h.2 : False)
    rw [h0, Nat.add_zero]
    refine Finset.sum_congr rfl fun i _ => if_congr ?_ rfl rfl
    rw [slotOf_peer]
    exact and_congr_right fun _ => ⟨fun h => by simpa only [ixRecv, Sum.inl.injEq, Sum.inr.injEq] using h, fun h => by rw [h]⟩
  rw [Finset.sum_congr rfl fun d _ => h d, sum_across fun d i => if c = d ∧ slotOf c j = slotOf d i then N else 0]
  rw [Finset.sum_eq_single c (fun d _ hd => Finset.sum_eq_zero fun i _ => if_neg fun h => hd h.1.symm) (fun h => absurd (Finset.mem_univ c) h),
    Finset.sum_eq_single j (fun i _ hi => if_neg fun h => hi (slotOf_injective c j i h.2).symm) (fun h => absurd (Finset.mem_univ j) h)]
  exact if_pos ⟨rfl, rfl⟩

/-- The launch credit of a semaphore that is owed `n`. -/
theorem launch_credit (c : Dev nD) (k : CellIx) (n : ℕ) (h : (∑ d : Dev nD, due d 0 0 (cell c k) ()) = n) :
    tallyOn (cell c k) (launchCredit (Pipeline.owing fun d => due d 0 0) 0 (cell c k)) = (tallyAt (cell c k) () n : CellTallies nD τ sig Unit) := by
  unfold tallyAt; refine congrArg _ (Finsupp.ext fun u => ?_); cases u
  rw [Pipeline.launchCredit_owing, Finsupp.single_eq_same, h]

omit [FloatOps F] in
/-- A device's credits out of the launch. -/
theorem launch_credits (c : Dev nD) : (Pipeline.launchCred (fun d => due d 0 0) c : sProp 𝕄) ⊢ credits c := by
  have h1 : (Pipeline.launchCred (fun d => due d 0 0) c : sProp 𝕄)
      ⊢ bigSep Finset.univ fun k : CellIx => cred (tallyOn (cell c k) (launchCredit (Pipeline.owing fun d => due d 0 0) 0 (cell c k))) := by
    unfold Pipeline.launchCred
    refine BIBase.Entails.trans (bigSep_subset (Finset.subset_univ (Finset.univ.map ⟨csem, csem_injective⟩))) (Entails.of_eq ?_)
    rw [bigSep_map]; rfl
  refine BIBase.Entails.trans h1 ?_
  rw [cells_dealt c]
  unfold credits
  rw [launch_credit c ixBar 10 (owed_bar c), bigSep_congr fun i _ => congrArg cred (launch_credit c (ixRecv (slotOf c i)) N (owed_recv c i))]
  iintro ⟨HB, -, ⟨-, -, HR⟩, -⟩
  isplitl [HB] <;> iassumption

end Cert.AllReduce
-- ==== Proof.Launch.lean ====
/-
# Launch — the whole program's run

The protocol's set-up, the body's run on each device and the transfers of the windows make up the run of the program: it ends,
each device's result array holding what the body left for it, its argument unchanged, all semaphores at zero.
-/
module

public import proofs.«01_k».proof.Proof.Run
public import proofs.«01_k».proof.Proof.Deal
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def launchSt : MemSt nD τ sig (Elt F) := ⟨m, fun _ => 0, ρ⟩

/-- Device `c`'s argument, as staged for the body. -/
def staged (c : Dev nD) : Vec F S512x256 .f32 := (win0_0.blk (0 : Fin 1)).view.read (Elt F) (m ((c : Thread nD τ).loc main_arg0))

/-- What device `c` starts the body with, beside its buffers. -/
def ready (c : Dev nD) : sProp 𝕄 := iprop(share' (sends (staged m)) c ∗ credits c ∗ levAts L lev)

/-- The landing buffers, with some contents. -/
def landing (c : Dev nD) : sProp 𝕄 := iprop((∃ P, owns (c : Thread nD τ) pM fullShare P) ∗ ∃ Z, owns (c : Thread nD τ) zM fullShare Z)

/-- What device `c` holds before the body, beside the windows, -/
def before (c : Dev nD) : sProp 𝕄 := iprop(ready m c ∗ landing c)
/-- and after it. -/
def afterwards (c : Dev nD) : sProp 𝕄 := iprop(landing c ∗ atRest c)

/-- The kernel's run as its windows see it: `x` stays as staged, the result is the body's. -/
def dats (_ : Fin 1) (c : Dev nD) : Dat τ (Elt F) Unit ℕ UU ℕ cfg0 c where
  A w := m ((cfg0.win w).arr.view.loc (c : Thread nD τ))
  after w _ := match w with
    | ⟨0, _⟩ => staged m c
    | ⟨1, _⟩ => outcome (staged m) c
  Φ t := match t with
    | ⟨0, _⟩ => before m c
    | ⟨_ + 1, _⟩ => afterwards c
  q _ := fullShare
  owed t := match t with
    | ⟨0, _⟩ => due c 0 0
    | ⟨_ + 1, _⟩ => 0

/-! ## The body -/

set_option maxRecDepth 4000 in
/-- What the body is given: what the device holds, and the two windows. -/
def bodyPre (c : Dev nD) : sProp 𝕄 :=
  iprop(before m c ∗ (dats m 0 c).owesAt () t0_0.castSucc
    ∗ (∃ d, owns (c : Thread nD τ) xM fullShare ((dats m 0 c).before (0 : Fin 2) t0_0 d))
    ∗ (∃ d, owns (c : Thread nD τ) oM fullShare ((dats m 0 c).before (1 : Fin 2) t0_0 d)))
/-- What the body leaves: the rest, and the two windows with what is in them. -/
def bodyPost (c : Dev nD) : sProp 𝕄 :=
  iprop(afterwards c ∗ (dats m 0 c).owesAt () t0_0.succ
    ∗ owns (c : Thread nD τ) xM fullShare (staged m c) ∗ owns (c : Thread nD τ) oM fullShare (outcome (staged m) c))

/-- The body goes from what it is given to what it should leave, -/
theorem body_meets (c : Dev nD) : bodyPre m c ⊢ runs c bodyOf fun _ => bodyPost m c := by
  unfold bodyPre before ready share' landing
  iintro ⟨⟨⟨⟨%K, Hr, Hp, Ht⟩, Hc, Hl⟩, ⟨%P, HP⟩, ⟨%Z, HZ⟩⟩, Ho, ⟨%dx, Hx⟩, ⟨%d, Hd⟩⟩
  icases Ho with ⟨%W, -, HW⟩
  ihave HW := (show owes (c : Thread nD τ) ((dats m 0 c).owed t0_0.castSucc) W ⊢ owes (c : Thread nD τ) (due c 0 0) W from .rfl) $$ HW
  ihave Hx := (show owns (c : Thread nD τ) xM fullShare ((dats m 0 c).before (0 : Fin 2) t0_0 dx) ⊢ owns (c : Thread nD τ) xM fullShare (staged m c) from .rfl) $$ Hx
  ihave Hbase := (show iprop(records (sends (staged m)) K ∗ levAts L lev ∗ ∃ W, owes (c : Thread nD τ) (due c 0 0) W)
    ⊢ base (sends (staged m)) K c (due c 0 0) from .rfl) $$ [Hr Hl HW]
  · isplitl [Hr]; · iexact Hr
    isplitl [Hl]; · iexact Hl
    iexists W; iexact HW
  iapply (body_runs (staged m) K c P Z ((dats m 0 c).before (1 : Fin 2) t0_0 d) fun _ => bodyPost m c) $$ [Hbase Hp Ht Hc Hx Hd HP HZ]
  · isplitl [Hbase]; · iexact Hbase
    isplitl [Hp]; · iexact Hp
    isplitl [Ht]; · iexact Ht
    isplitl [Hc]; · iexact Hc
    isplitl [Hx]; · iexact Hx
    isplitl [Hd]; · iexact Hd
    isplitl [HP] <;> iassumption
  iintro ⟨Hbase, Hz, Hx, Ho, HP, HZ⟩
  unfold base bodyPost afterwards landing
  icases Hbase with ⟨-, -, ⟨%W', HW⟩⟩
  isplitl [HP HZ Hz]
  · isplitl [HP HZ]
    · isplitl [HP]; · (iexists _; iexact HP)
      iexists _; iexact HZ
    iexact Hz
  isplitl [HW]
  · iexists W'
    isplitr; · ipureintro; exact fun _ _ => Or.inl trivial
    iexact HW
  isplitl [Hx] <;> iassumption

set_option maxRecDepth 4000 in
/-- as the launch asks for it. -/
theorem body_obligation (c : Dev nD) : BodyObligation (dats (F := F) m 0 c) (defs₀ (F := F)) 𝒱₀ () Set.univ := fun t => by
  rw [fin_N0 t, bigSep_W0, bigSep_W0]
  exact body_meets m c

/-! ## The launch -/

/-- The kernel's own transfer semaphores are those that the protocol names. -/
theorem ownSemFacts : Pipeline.OwnSemFacts cfg0.spec osem := by decide

/-- The windows are held in full. -/
theorem share_full (c : Dev nD) (w : Fin cfg0.W) : (dats m 0 c).share w = fullShare := by unfold Dat.share; split <;> rfl

/-- The waits of the windows' own transfers are below all that is owed. -/
theorem window_waits (c : Dev nD) : (levAts L lev : sProp 𝕄) ⊢ Pipeline.cellsWaits cfgs (dats m) () 0 c := by
  refine Pipeline.cellsWaits_intro cfgs (dats m) () 0 c fun w s t => ?_
  have hlow : height (nameOf (.dma (((cfgs 0).win w).sem s))) ≤ 0 := by fin_cases w <;> fin_cases s <;> decide
  rcases t with ⟨_ | _, ht⟩
  · exact mayWait c _ 0 0 0 hlow (fun i _ => by split <;> decide) (fun i _ => by decide)
  · show (levAts L lev : sProp 𝕄) ⊢ MayWait (c : Thread nD τ) _ () 0
    rw [MayWait_zero]; iintro -; iempintro

omit [FloatOps F] in
/-- A whole buffer owned, by its contents. -/
theorem owned (c : Dev nD) (b : Ref sig .tc) (f : Buf (Elt F) ((c : Thread nD τ).loc b)) :
    (((c : Thread nD τ).loc b ↦{fullShare} f : sProp 𝕄)) ⊢ owns (c : Thread nD τ) (Memref.whole b) fullShare f := by
  unfold owns; simp only [Memref.view_whole, View.read_whole, View.set_whole]
  iintro H; iexists f; isplitr; · ipureintro; rfl
  iexact H
omit [FloatOps F] in
/-- An owned buffer is a buffer with some contents. -/
theorem given_up (c : Dev nD) (b : Ref sig .tc) (f : Buf (Elt F) ((c : Thread nD τ).loc b)) :
    (owns (c : Thread nD τ) (Memref.whole b) fullShare f : sProp 𝕄) ⊢ iprop(∃ f : Buf (Elt F) ((c : Thread nD τ).loc b), (c : Thread nD τ).loc b ↦{fullShare} f) := by
  unfold owns; simp only [Memref.view_whole, View.read_whole, View.set_whole]
  iintro ⟨%g, -, H⟩; iexists g; iexact H

omit [FloatOps F] in
/-- The scratch buffers that the call provides are the landing buffers, -/
theorem landing_in (c : Dev nD) : (Pipeline.scopedRest cfg0.spec c : sProp 𝕄) ⊢ landing c := by
  rw [scopedRest0_eq]; unfold landing
  iintro ⟨⟨%P, HP⟩, ⟨%Z, HZ⟩⟩
  isplitl [HP]
  · iexists P; iapply (owned c cc0_scratch0 P); iexact HP
  · iexists Z; iapply (owned c cc0_scratch1 Z); iexact HZ
omit [FloatOps F] in
/-- and the landing buffers are what it takes back. -/
theorem landing_out (c : Dev nD) : (landing c : sProp 𝕄) ⊢ Pipeline.scopedRest cfg0.spec c := by
  rw [scopedRest0_eq]; unfold landing
  iintro ⟨⟨%P, HP⟩, ⟨%Z, HZ⟩⟩
  isplitl [HP]
  · iapply (given_up c cc0_scratch0 P); iexact HP
  · iapply (given_up c cc0_scratch1 Z); iexact HZ

/-- What the launch deals to a device is what it starts with; -/
theorem ready_intro (c : Dev nD) :
    iprop(Pipeline.unscopedRestP Pipeline.Prefetch.none cfg0.spec c (fun b => m ((c : Thread nD τ).loc b)) ∗ levAts L lev
        ∗ Pipeline.launchCred (fun d => due d 0 0) c ∗ prngReg c (ρ c) ∗ share' (sends (staged m)) c)
      ⊢ |={Set.univ}=> iprop(ready m c ∗ emp) := by
  iintro ⟨-, Hl, Hc, -, Hs⟩
  ihave Hc := (launch_credits (F := F) c) $$ Hc
  imodintro
  unfold ready
  isplitl
  · isplitl [Hs]; · iexact Hs
    isplitl [Hc] <;> iassumption
  · iempintro

/-- with the scratch buffers that is all it holds before the body. -/
theorem before_intro (c : Dev nD) :
    iprop(ready m c ∗ Pipeline.prefHeld Pipeline.Prefetch.none c (fun _ => fullShare.right) (fun k => k.elim0) ∗ Pipeline.scopedRest cfg0.spec c)
      ⊢ (dats m 0 c).Φ 0 := by
  show _ ⊢ before m c
  unfold before
  iintro ⟨Hs, -, HL⟩
  isplitl [Hs]; · iexact Hs
  iapply (landing_in c); iexact HL

/-- After the body every semaphore is at rest and the scratch buffers are given back. -/
theorem exit (c : Dev nD) :
    (dats m 0 c).Φ (Fin.last cfg0.N) ⊢ iprop(unscopedSems0 c ∗ Pipeline.ownSems0 osem c ∗ Pipeline.scopedRest cfg0.spec c) := by
  show afterwards c ⊢ _
  unfold afterwards
  rw [all_sems]
  iintro ⟨HL, Hu, Ho⟩
  isplitl [Hu]; · iexact Hu
  isplitl [Ho]; · iexact Ho
  iapply (landing_out c); iexact HL

/-- An array of device `c` after the run. -/
def ends (c : Dev nD) (w : Fin cfg0.W) : Buf (Elt F) ((cfg0.win w).arr.view.loc (c : Thread nD τ)) := (dats m 0 c).arrAt w cfg0.N

set_option maxRecDepth 8000 in
/-- **The run**: from any memory with semaphores at zero, the program ends on all devices, each array of the windows as `ends` says and
    every semaphore at zero. -/
theorem main_runs : θ_run defs (onTc (τ := τ) (main (F := F))) (launchSt m ρ) (fun r =>
    (∀ c : Dev nD, ∀ w : Fin cfg0.W, r.2.mem ((cfg0.win w).arr.view.loc (c : Thread nD τ)) = ends m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := fun d => due d 0 0) (howed₀ := fun _ => rfl) (howedN := fun _ => rfl)
    (L := L) (lv := lev) (hL := L_of_ne) (hwaits := window_waits m)
    (G := dealt (sends (staged m))) (G' := share' (sends (staged m))) (u₀ := seed)
    (hu₀ := by
      unfold seed
      iintro Hu
      ihave H := (ownU_pair _ _) $$ Hu
      icases H with ⟨HP, HX⟩
      imod (deal (sends (staged m))) $$ HX with HG
      imodintro
      isplitl [HP] <;> iassumption)
    (hglob := set_up (sends (staged m)))
    (hA := fun _ _ => rfl) (hpf := fun _ k => k.elim0)
    (X := ready m) (Y := fun c => unscopedSems0 c) (Z := fun _ => iprop(emp))
    (hX := ready_intro m ρ) (hin := before_intro m) (hout := exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument stays as it was. -/
theorem ends_arg (c : Dev nD) : ends m c (0 : Fin 2) = m ((c : Thread nD τ).loc main_arg0) :=
  (dats (F := F) m 0 c).arrAt_in (0 : Fin 2) rfl _

end Cert.AllReduce
-- ==== Proof.Value.lean ====
/-
# Value — what the kernel computes

In the ideal reals, the row that every device ends with is the sum of all rows of all devices' arguments.
-/
module

public import proofs.«01_k».proof.Proof.Launch
public import Idealize.ShloMosaic.Lib.Pointwise
public import Idealize.ShloMosaic.Lib.Pipeline.ValueKit.Geometry

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result array -/

section Array

variable (m : (ℓ : Loc nD τ sig) → Buf (Elt F) ℓ)

/-- The argument is staged whole, -/
theorem staged_eq (c : Dev nD) : staged m c = m ((c : Thread nD τ).loc main_arg0) := by
  funext i
  show m ((c : Thread nD τ).loc main_arg0) ((win0_0.blk (0 : Fin 1)).view.emb i) = _
  refine congrArg (m ((c : Thread nD τ).loc main_arg0)) (funext fun a => Fin.ext ?_)
  fin_cases a <;> exact (Nat.zero_add _).trans (Nat.one_mul _)

/-- and the result written back whole. -/
theorem ends_result (c : Dev nD) : ends m c (1 : Fin 2) = outcome (fun d : Dev nD => m ((d : Thread nD τ).loc main_arg0)) c := by
  have h : ends m c (1 : Fin 2) = outcome (staged m) c :=
    (dats m 0 c).arrAt_eq_of_after_last (1 : Fin 2) t0_0 (by decide +kernel) _ fun j => rfl
  rw [h, show staged m = fun d : Dev nD => m ((d : Thread nD τ).loc main_arg0) from funext (staged_eq m)]

end Array

/-! ## The sums, in the ideal reals -/

section Ideal

variable (x : Dev nD → Vec Ideal S512x256 .f32)

/-- Entry `l` of the row that device `c` sends in the first stage: the sum of column `l` of its argument. -/
theorem first_apply (c : Dev nD) (i : S1x256.Idx) : (first x c i : EReal) = ∑ r : Fin 512, (x c (ix2 r (i 1 : Fin 256)) : EReal) := by
  unfold first k0_pay1
  simp only [pointwise]

/-- The sum of the eight rows of the first stage, -/
theorem sum_of_eight (Y : Fin 8 → Row Ideal) (i : S1x256.Idx) : (k0_pay2 (F := Ideal) (glue Y) i : EReal) = ∑ q : Fin 8, (Y q (ix2 (0 : Fin 1) (i 1 : Fin 256)) : EReal) := by
  unfold k0_pay2
  simp only [pointwise]
  exact Finset.sum_congr rfl fun q _ => congrArg (Y q) (funext fun a => by fin_cases a <;> rfl)
/-- and of the four rows of the second. -/
theorem sum_of_four (Y : Fin 4 → Row Ideal) (i : S1x256.Idx) : (k0_pay3 (F := Ideal) (glue Y) i : EReal) = ∑ k : Fin 4, (Y k (ix2 (0 : Fin 1) (i 1 : Fin 256)) : EReal) := by
  unfold k0_pay3
  simp only [pointwise]
  exact Finset.sum_congr rfl fun k _ => congrArg (Y k) (funext fun a => by fin_cases a <;> rfl)

/-- The first stage's origins of the second stage's origins are all devices, each once. -/
theorem origins : ∀ (c : Dev nD) (k : Fin 4) (q : Fin 8), origin (origin c (Fin.natAdd 8 k)) (Fin.castLE (by decide) q) = (finProdFinEquiv (k, q) : Fin (4 * 8)) := by
  decide +kernel

/-- **The result**: entry `l` is the sum of column `l` over all devices' arguments. -/
theorem outcome_sum (c : Dev nD) (i : S1x256.Idx) :
    (outcome x c i : EReal) = ∑ d : Fin 32, ∑ r : Fin 512, (x d (ix2 r (i 1 : Fin 256)) : EReal) := by
  unfold outcome column
  rw [sum_of_four]
  have h (k : Fin 4) : (second x (origin c (Fin.natAdd 8 k)) (ix2 (0 : Fin 1) (i 1 : Fin 256)) : EReal)
      = ∑ q : Fin 8, ∑ r : Fin 512, (x (finProdFinEquiv (k, q) : Fin (4 * 8)) (ix2 r (i 1 : Fin 256)) : EReal) := by
    unfold second plane
    rw [sum_of_eight]
    refine Finset.sum_congr rfl fun q _ => ?_
    rw [first_apply, origins]; rfl
  rw [Finset.sum_congr rfl fun k _ => h k, ← Fintype.sum_prod_type' (fun (k : Fin 4) (q : Fin 8) => ∑ r : Fin 512, (x (finProdFinEquiv (k, q) : Fin (4 * 8)) (ix2 r (i 1 : Fin 256)) : EReal))]
  exact Equiv.sum_comp (finProdFinEquiv : Fin 4 × Fin 8 ≃ Fin (4 * 8)) fun d => ∑ r : Fin 512, (x d (ix2 r (i 1 : Fin 256)) : EReal)

end Ideal

end Cert.AllReduce
-- ==== Proof.Reference.lean ====
/-
# Reference — the reference's run and what it computes

The reference sums the whole array's rows. Cut into the devices' blocks of rows, the sum is over the blocks and the rows in them.
-/
module

public import proofs.«01_k».proof.Proof.Gen.ReferenceIdeal
public import Idealize.ShloMosaic.Lib.Layout
public import Idealize.ShloMosaic.Lib.Pointwise
public import Idealize.ShloMosaic.Lib.StableHlo.Run
public import Idealize.ShloMosaic.PureOps.Ideal
public import Idealize.ShloMosaic.Lib.Quiescent

@[expose] public section

noncomputable section

namespace Cert.AllReduce.Ref

open Cert.ReferenceIdeal Cert.ReferenceIdeal.Gen
open Idealize.ShloMosaic Idealize.ShloMosaic.TcCoe Idealize.ShloMosaic.StableHlo Idealize.SL.Sem

variable {F : FTy → Type} [FloatOps F]

/-- The row of column sums, as the reference computes it. -/
def total (X : FVec F S16384x256 .f32) : FVec F S1x256 .f32 :=
  broadcastInDim S1x256 ![1] bcast_S256_S1x256_1 (Host.reduceAdd X (constant (F := F) S_ .f32 0x00000000#32) reducesTo_S16384x256_S256_d0 h_S_)

/-- The reference's operations, one after the other. -/
abbrev steps : List (HloOp τ sig (Elt F)) :=
  [nullary main_cst (constant S_ .f32 0x00000000#32),
    binary main_arg0 main_cst main_v0 (fun X v => Host.reduceAdd X v reducesTo_S16384x256_S256_d0 h_S_),
    unary main_v0 main_v1 (broadcastInDim S1x256 ![1] bcast_S256_S1x256_1)]

/-- The reference is its steps in sequence. -/
theorem main_steps (c : Dev nD) : main (F := F) c = seq steps := rfl

/-- They leave the column sums in the result, -/
theorem result_after (V : Valuation τ sig (Elt F)) : after steps V (main_v1 : DevRef τ sig) = total (V (main_arg0 : DevRef τ sig)) := by
  after_results
  rfl
/-- and the argument alone. -/
theorem arg_after (V : Valuation τ sig (Elt F)) : after steps V (main_arg0 : DevRef τ sig) = V (main_arg0 : DevRef τ sig) := by
  after_results

/-- It has no scoped buffers, -/
theorem no_scoped_refs : (Finset.univ.filter fun b : Ref sig .tc => b.isScoped) = ∅ := by decide
/-- and no scoped semaphores; -/
theorem no_scoped_sems : (Finset.univ.filter fun sm : SemLoc sig => sm.isScoped .tc) = ∅ := by decide
/-- its steps touch only its own buffers. -/
theorem steps_local : (steps : List (HloOp τ sig (Elt F))).Forall fun op => op.bufs ⊆ tcRefs τ sig :=
  ⟨nullary_bufs_sub .., binary_bufs_sub .., unary_bufs_sub ..⟩

/-- **The reference's run**: it ends with the column sums, its argument unchanged, and all semaphores — there are none — at zero. -/
theorem main_runs (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v1) = total (m ((c : Thread nD τ).loc main_arg0))
        ∧ r.2.mem ((c : Thread nD τ).loc main_arg0) = m ((c : Thread nD τ).loc main_arg0)) ∧ r.2.sem = fun _ => 0 :=
  (θ_run defs _ _).mono (fun _ h => ⟨fun c => ⟨(h c main_v1).trans (result_after _), (h c main_arg0).trans (arg_after _)⟩, sem_eq_zero_of_no_sems rfl _⟩)
    (run_seq no_scoped_refs no_scoped_sems defs main (fun _ => steps) main_steps (fun _ => steps_local) m ρ)

/-- Entry `l` of the reference's row, over the blocks of 512 rows. -/
theorem total_apply (X : FVec Ideal S16384x256 .f32) (i : S1x256.Idx) :
    (total X i : EReal) = ∑ d : Fin 32, ∑ r : Fin 512, ((Layout.block ⟨2, ![512, 256]⟩ ⟨2, ![16384, 256]⟩ 0 32 d X : FVec Ideal ⟨2, ![512, 256]⟩ .f32) (ix2 r (i 1 : Fin 256)) : EReal) := by
  have h : (total X i : EReal) = ∑ R : Fin (32 * 512), (X (ix2 (R : Fin 16384) (i 1 : Fin 256)) : EReal) := by
    unfold total
    simp only [pointwise, Ideal.ofBits_zero_f32, zero_add]
    rfl
  rw [h, ← Equiv.sum_comp (finProdFinEquiv : Fin 32 × Fin 512 ≃ Fin (32 * 512)), Fintype.sum_prod_type]
  refine Finset.sum_congr rfl fun d _ => Finset.sum_congr rfl fun r _ => congrArg (fun j => (X j : EReal)) (funext fun a => Fin.ext ?_)
  fin_cases a
  · show r.val + 512 * d.val = d.val * 512 + r.val; omega
  · rfl

end Cert.AllReduce.Ref
-- ==== Proof.Equation.lean ====
/-
# Equation — the claims, one by one
-/
module

public import proofs.«01_k».proof.Defs
public import proofs.«01_k».proof.Proof.SameText
public import proofs.«01_k».proof.Proof.Value
public import proofs.«01_k».proof.Proof.Reference

@[expose] public section

noncomputable section

namespace Cert.AllReduce

open Cert.KernelIdeal Cert.KernelIdeal.Gen
open Idealize.ShloMosaic Idealize.ShloMosaic.TcCoe Idealize.SL.Sem

variable {F : FTy → Type} [FloatOps F]

/-- The run as the claims about the kernel ask for it: on every device the result is `outcome`, the argument is unchanged, and the
    semaphores are at zero. -/
theorem kernel_run (m : (ℓ : Loc nD τ sig) → Buf (Elt F) ℓ) (g : Dev nD → PrngReg) :
    θ_run defs (onTc (τ := τ) (main (F := F))) ⟨m, fun _ => 0, g⟩ fun r =>
      (∀ c : Dev nD, r.2.mem ((c : Thread nD τ).loc main_v1) = outcome (fun d : Dev nD => m ((d : Thread nD τ).loc main_arg0)) c
        ∧ r.2.mem ((c : Thread nD τ).loc main_arg0) = m ((c : Thread nD τ).loc main_arg0)) ∧ r.2.sem = fun _ => 0 :=
  (θ_run defs _ _).mono (fun _ h => ⟨fun c => ⟨(h.1 c (1 : Fin 2)).trans (ends_result m c), (h.1 c (0 : Fin 2)).trans (ends_arg m c)⟩, h.2⟩) (main_runs m g)

/-- The kernel as printed ends, its argument unchanged and its semaphores at zero; -/
theorem frame_kernel : Cert.quiescent_Kernel (hKernel := Cert.Kernel.Gen.facts) := fun m g _ =>
  (same_run (F := Bits) _ _).mpr ((θ_run defs _ _).mono (fun _ h => ⟨fun c => (h.1 c).2, h.2⟩) (kernel_run m g))

/-- so does its idealization, -/
theorem frame_ideal : Cert.quiescent_KernelIdeal (hKernelIdeal := Cert.KernelIdeal.Gen.facts) := fun m g _ =>
  (θ_run defs _ _).mono (fun _ h => ⟨fun c => (h.1 c).2, h.2⟩) (kernel_run m g)

/-- and the reference. -/
theorem frame_reference : Cert.quiescent_ReferenceIdeal (hReferenceIdeal := Cert.ReferenceIdeal.Gen.facts) := fun m g _ =>
  (θ_run _ _ _).mono (fun _ h => ⟨fun c => (h.1 c).2, h.2⟩) (Ref.main_runs m g)

/-- Of devices that hold the blocks of `X`, each ends with the reference's row. -/
theorem outcome_total (X : FVec Ideal Cert.ReferenceIdeal.S16384x256 .f32) (c : Dev nD) :
    outcome (F := Ideal) (fun d : Dev nD => Layout.block ⟨2, ![512, 256]⟩ ⟨2, ![16384, 256]⟩ 0 32 d X) c = Ref.total X :=
  funext fun i => (outcome_sum _ c i).trans (Ref.total_apply X i).symm

/-- **The value**: the kernel's result is the reference's, on every device. -/
theorem same_value : Cert.algebraic_KernelIdeal_ReferenceIdeal (hKernelIdeal := Cert.KernelIdeal.Gen.facts) (hReferenceIdeal := Cert.ReferenceIdeal.Gen.facts) :=
  fun m g m' g' _ hm => by
    refine ⟨Ref.total (F := Ideal) (m' (((0 : Dev Cert.ReferenceIdeal.nD) : Thread Cert.ReferenceIdeal.nD Cert.ReferenceIdeal.τ).loc Cert.ReferenceIdeal.main_arg0)), ?_, ?_⟩
    · refine (θ_run defs _ _).mono (fun _ h c => ⟨(h.1 c).1.trans ?_, (h.1 c).2⟩) (kernel_run m g)
      rw [show (fun d : Dev nD => m ((d : Thread nD τ).loc main_arg0)) = _ from funext hm]
      exact outcome_total _ c
    · exact (θ_run _ _ _).mono (fun _ h => h.1 0) (Ref.main_runs m' g')

end Cert.AllReduce
-- ==== Proof.lean ====
/-
# The claims about the two-stage all-reduce

The program ends, leaves its argument as it was and all semaphores at zero — as printed, idealized, and so does the reference —; the
idealization rewrites nothing; and in the ideal reals every device's result is the reference's.
-/
module

public import proofs.«01_k».proof.Proof.Equation

@[expose] public section

noncomputable section

namespace Cert.Proof

/-- All claims hold. -/
theorem claim : Cert.Claim :=
  ⟨Cert.Kernel.Gen.facts, Cert.KernelIdeal.Gen.facts, Cert.ReferenceIdeal.Gen.facts,
    AllReduce.frame_kernel, AllReduce.frame_ideal, AllReduce.frame_reference, trivial, AllReduce.same_value⟩

end Cert.Proof

end
